-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sides_nonnegative [hPre_sides_nonnegative : Cert.Pre_sides_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_sides_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sides_nonnegative [hPre_sides_nonnegative : Cert.Pre_sides_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sides_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sides_nonnegative [hKernelIdeal : Cert.KernelIdeal.Facts] [hPre_sides_nonnegative : Cert.Pre_sides_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sides_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sides_nonnegative [hReferenceIdeal : Cert.ReferenceIdeal.Facts] [hPre_sides_nonnegative : Cert.Pre_sides_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sides_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sides_nonnegative [hKernelIdeal : Cert.KernelIdeal.Facts] [hReferenceIdeal : Cert.ReferenceIdeal.Facts] [hPre_sides_nonnegative : Cert.Pre_sides_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sides_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6_1)) (v1 : (c : Dev Cert.KernelIdeal.nD) → Buf (Elt Ideal) ((c.tc : Thread Cert.KernelIdeal.nD Cert.KernelIdeal.τ).loc Cert.KernelIdeal.main_arg1)) (v2 : (c : Dev Cert.KernelIdeal.nD) → Buf (Elt Ideal) ((c.tc : Thread Cert.KernelIdeal.nD Cert.KernelIdeal.τ).loc Cert.KernelIdeal.main_v6_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_1) = v0 c
          ∧ r.2.mem ((c.tc : Thread Cert.KernelIdeal.nD Cert.KernelIdeal.τ).loc Cert.KernelIdeal.main_arg1) = v1 c
          ∧ r.2.mem ((c.tc : Thread Cert.KernelIdeal.nD Cert.KernelIdeal.τ).loc Cert.KernelIdeal.main_v6_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg1) = v1 c
          ∧ r.2.mem ((c.tc : Thread Cert.ReferenceIdeal.nD Cert.ReferenceIdeal.τ).loc Cert.ReferenceIdeal.main_v85_1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sides_nonnegative : Cert.Pre_sides_nonnegative.Facts),
    quiescent_Kernel (hKernel := hKernel)
    ∧ quiescent_KernelIdeal (hKernelIdeal := hKernelIdeal)
    ∧ quiescent_KernelIdeal_pre_sides_nonnegative (hKernelIdeal := hKernelIdeal) (hPre_sides_nonnegative := hPre_sides_nonnegative)
    ∧ quiescent_ReferenceIdeal (hReferenceIdeal := hReferenceIdeal)
    ∧ quiescent_ReferenceIdeal_pre_sides_nonnegative (hReferenceIdeal := hReferenceIdeal) (hPre_sides_nonnegative := hPre_sides_nonnegative)
    ∧ preserves_Kernel_KernelIdeal
    ∧ algebraic_KernelIdeal_ReferenceIdeal_pre_sides_nonnegative (hKernelIdeal := hKernelIdeal) (hReferenceIdeal := hReferenceIdeal) (hPre_sides_nonnegative := hPre_sides_nonnegative)
-- ==== Pre_sides_nonnegative.lean ====
abbrev S32x900x4 : Shape := ⟨3, ![32, 900, 4]⟩
abbrev S32x900x91 : Shape := ⟨3, ![32, 900, 91]⟩
abbrev S32x900x2 : Shape := ⟨3, ![32, 900, 2]⟩
abbrev S_ : Shape := ⟨0, ![]⟩

class Facts : Prop where
  slices_S32x900x4_S32x900x2_0_0_2 : S32x900x4.Slices ![0, 0, 2] S32x900x2
  bcast_S_S32x900x2 : S_.BroadcastsInDim S32x900x2 (![] : Fin 0 → Fin S32x900x2.rank)

variable [Facts]

def fn {F : FTy → Type} [FloatOps F] (main_arg0 : FVec F S32x900x4 .f32) (main_arg1 : FVec F S32x900x91 .f32) : IVec S32x900x2 1 :=
  let main_v0 : FVec F S32x900x2 .f32 := (extractStridedSlice S32x900x2 ![0, 0, 2] · slices_S32x900x4_S32x900x2_0_0_2) main_arg0
  let main_cst : FVec F S_ .f32 := constant S_ .f32 0x00000000#32
  let main_v1 : FVec F S32x900x2 .f32 := broadcastInDim S32x900x2 ![] bcast_S_S32x900x2 main_cst
  let main_v2 : IVec S32x900x2 1 := cmpf .oge main_v0 main_v1
  main_v2
-- ==== Kernel.lean ====
abbrev S32x900x4 : Shape := ⟨3, ![32, 900, 4]⟩
abbrev S32x900x91 : Shape := ⟨3, ![32, 900, 91]⟩
abbrev S_ : Shape := ⟨0, ![]⟩
abbrev S32x1024x4 : Shape := ⟨3, ![32, 1024, 4]⟩
abbrev S32x1024x1 : Shape := ⟨3, ![32, 1024, 1]⟩
abbrev S32x1024x3 : Shape := ⟨3, ![32, 1024, 3]⟩
abbrev S32x1024x8 : Shape := ⟨3, ![32, 1024, 8]⟩
abbrev S32x4x1024 : Shape := ⟨3, ![32, 4, 1024]⟩
abbrev S32x8x1024 : Shape := ⟨3, ![32, 8, 1024]⟩
abbrev S32x900x900 : Shape := ⟨3, ![32, 900, 900]⟩
abbrev S2x1024x8 : Shape := ⟨3, ![2, 1024, 8]⟩
abbrev S2x8x1024 : Shape := ⟨3, ![2, 8, 1024]⟩
abbrev S2x900x900 : Shape := ⟨3, ![2, 900, 900]⟩
abbrev S2x900x4 : Shape := ⟨3, ![2, 900, 4]⟩
abbrev S2x1024x1024 : Shape := ⟨3, ![2, 1024, 1024]⟩
abbrev S1x8x1024 : Shape := ⟨3, ![1, 8, 1024]⟩
abbrev S8x1024 : Shape := ⟨2, ![8, 1024]⟩
abbrev S1x1024 : Shape := ⟨2, ![1, 1024]⟩
abbrev S1x128x8 : Shape := ⟨3, ![1, 128, 8]⟩
abbrev S128x8 : Shape := ⟨2, ![128, 8]⟩
abbrev S128x1 : Shape := ⟨2, ![128, 1]⟩
abbrev S128x128 : Shape := ⟨2, ![128, 128]⟩
abbrev S1x128 : Shape := ⟨2, ![1, 128]⟩
abbrev S1x128x128 : Shape := ⟨3, ![1, 128, 128]⟩
abbrev S1 : Shape := ⟨1, ![1]⟩
abbrev S1x1x1 : Shape := ⟨3, ![1, 1, 1]⟩
abbrev S1x1024x1024 : Shape := ⟨3, ![1, 1024, 1024]⟩
abbrev S1024x1024 : Shape := ⟨2, ![1024, 1024]⟩
abbrev S1x128x1024 : Shape := ⟨3, ![1, 128, 1024]⟩
abbrev S128x1024 : Shape := ⟨2, ![128, 1024]⟩
abbrev S1x1024x8 : Shape := ⟨3, ![1, 1024, 8]⟩
abbrev S1024x8 : Shape := ⟨2, ![1024, 8]⟩
abbrev S1x900x900 : Shape := ⟨3, ![1, 900, 900]⟩
abbrev S900x900 : Shape := ⟨2, ![900, 900]⟩
abbrev S900x4 : Shape := ⟨2, ![900, 4]⟩
abbrev S900x1 : Shape := ⟨2, ![900, 1]⟩
abbrev S1x900x4 : Shape := ⟨3, ![1, 900, 4]⟩

abbrev nBuf : Space → Nat
  | .hbm => 16
  | .vmem => 10
  | .smem => 0
  | _ => 0

abbrev bufTy : (tb : Table) → Fin (tcTables nBuf tb) → BufTy
  | .hbm, ⟨0, _⟩ => ⟨S32x900x4, .f32⟩
  | .hbm, ⟨1, _⟩ => ⟨S32x900x91, .f32⟩
  | .hbm, ⟨2, _⟩ => ⟨S_, .i32⟩
  | .hbm, ⟨3, _⟩ => ⟨S_, .f32⟩
  | .hbm, ⟨4, _⟩ => ⟨S32x1024x4, .f32⟩
  | .hbm, ⟨5, _⟩ => ⟨S_, .f32⟩
  | .hbm, ⟨6, _⟩ => ⟨S32x1024x1, .f32⟩
  | .hbm, ⟨7, _⟩ => ⟨S_, .f32⟩
  | .hbm, ⟨8, _⟩ => ⟨S32x1024x3, .f32⟩
  | .hbm, ⟨9, _⟩ => ⟨S32x1024x8, .f32⟩
  | .hbm, ⟨10, _⟩ => ⟨S32x4x1024, .f32⟩
  | .hbm, ⟨11, _⟩ => ⟨S_, .i32⟩
  | .hbm, ⟨12, _⟩ => ⟨S_, .f32⟩
  | .hbm, ⟨13, _⟩ => ⟨S32x8x1024, .f32⟩
  | .hbm, ⟨14, _⟩ => ⟨S32x900x900, .f32⟩
  | .hbm, ⟨15, _⟩ => ⟨S32x900x4, .f32⟩
  | .local _ .vmem, ⟨0, _⟩ => ⟨S2x1024x8, .f32⟩
  | .local _ .vmem, ⟨1, _⟩ => ⟨S2x1024x8, .f32⟩
  | .local _ .vmem, ⟨2, _⟩ => ⟨S2x8x1024, .f32⟩
  | .local _ .vmem, ⟨3, _⟩ => ⟨S2x8x1024, .f32⟩
  | .local _ .vmem, ⟨4, _⟩ => ⟨S2x900x900, .f32⟩
  | .local _ .vmem, ⟨5, _⟩ => ⟨S2x900x900, .f32⟩
  | .local _ .vmem, ⟨6, _⟩ => ⟨S2x900x4, .f32⟩
  | .local _ .vmem, ⟨7, _⟩ => ⟨S2x900x4, .f32⟩
  | .local _ .vmem, ⟨8, _⟩ => ⟨S2x1024x1024, .bf16⟩
  | .local _ .vmem, ⟨9, _⟩ => ⟨S2x1024x1024, .f32⟩
  | _, _ => ⟨S32x900x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_call1_v0 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v50 : BitVec 32 := Scalar.addi c0_i32 c8_i32
  let c1_i32 : BitVec 32 := 1#32
  ⟨c0_i32, v50, c1_i32⟩
def k0_off1 (k0_t1 : Fin k0_t1_loop.trips) : Fin 3 → Nat :=
  let c0_50 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v96 : Index := Scalar.indexCast v95
  let c0_51 : Index := 0#32
  ![0, v96.toNat, 0]
def k0_off2 (k0_t1 : Fin k0_t1_loop.trips) : Fin 3 → Nat :=
  let c0_64 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v180 : Index := Scalar.indexCast v95
  let c0_65 : Index := 0#32
  ![0, v180.toNat, 0]
def k0_off3 (k0_t1 : Fin k0_t1_loop.trips) : Fin 3 → Nat :=
  let c0_73 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v242 : Index := Scalar.indexCast v95
  let c128 : Index := 128#32
  ![0, v242.toNat, 128]
def k0_off4 (k0_t1 : Fin k0_t1_loop.trips) : Fin 3 → Nat :=
  let c0_81 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v304 : Index := Scalar.indexCast v95
  let c256 : Index := 256#32
  ![0, v304.toNat, 256]
def k0_off5 (k0_t1 : Fin k0_t1_loop.trips) : Fin 3 → Nat :=
  let c0_89 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v366 : Index := Scalar.indexCast v95
  let c384 : Index := 384#32
  ![0, v366.toNat, 384]
def k0_off6 (k0_t1 : Fin k0_t1_loop.trips) : Fin 3 → Nat :=
  let c0_97 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v428 : Index := Scalar.indexCast v95
  let c512 : Index := 512#32
  ![0, v428.toNat, 512]
def k0_off7 (k0_t1 : Fin k0_t1_loop.trips) : Fin 3 → Nat :=
  let c0_105 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v490 : Index := Scalar.indexCast v95
  let c640 : Index := 640#32
  ![0, v490.toNat, 640]
def k0_off8 (k0_t1 : Fin k0_t1_loop.trips) : Fin 3 → Nat :=
  let c0_113 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v552 : Index := Scalar.indexCast v95
  let c768 : Index := 768#32
  ![0, v552.toNat, 768]
def k0_off9 (k0_t1 : Fin k0_t1_loop.trips) : Fin 3 → Nat :=
  let c0_121 : Index := 0#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v614 : Index := Scalar.indexCast v95
  let c896 : Index := 896#32
  ![0, v614.toNat, 896]
def k0_off10 (k0_t1 : Fin k0_t1_loop.trips) : Fin 3 → Nat :=
  let c1_123 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v623 : Index := Scalar.indexCast v95
  let c0_124 : Index := 0#32
  ![1, v623.toNat, 0]
def k0_off11 (k0_t1 : Fin k0_t1_loop.trips) : Fin 3 → Nat :=
  let c1_137 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v707 : Index := Scalar.indexCast v95
  let c0_138 : Index := 0#32
  ![1, v707.toNat, 0]
def k0_off12 (k0_t1 : Fin k0_t1_loop.trips) : Fin 3 → Nat :=
  let c1_146 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v769 : Index := Scalar.indexCast v95
  let c128_147 : Index := 128#32
  ![1, v769.toNat, 128]
def k0_off13 (k0_t1 : Fin k0_t1_loop.trips) : Fin 3 → Nat :=
  let c1_155 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v831 : Index := Scalar.indexCast v95
  let c256_156 : Index := 256#32
  ![1, v831.toNat, 256]
def k0_off14 (k0_t1 : Fin k0_t1_loop.trips) : Fin 3 → Nat :=
  let c1_164 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v893 : Index := Scalar.indexCast v95
  let c384_165 : Index := 384#32
  ![1, v893.toNat, 384]
def k0_off15 (k0_t1 : Fin k0_t1_loop.trips) : Fin 3 → Nat :=
  let c1_173 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v955 : Index := Scalar.indexCast v95
  let c512_174 : Index := 512#32
  ![1, v955.toNat, 512]
def k0_off16 (k0_t1 : Fin k0_t1_loop.trips) : Fin 3 → Nat :=
  let c1_182 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v1017 : Index := Scalar.indexCast v95
  let c640_183 : Index := 640#32
  ![1, v1017.toNat, 640]
def k0_off17 (k0_t1 : Fin k0_t1_loop.trips) : Fin 3 → Nat :=
  let c1_191 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v1079 : Index := Scalar.indexCast v95
  let c768_192 : Index := 768#32
  ![1, v1079.toNat, 768]
def k0_off18 (k0_t1 : Fin k0_t1_loop.trips) : Fin 3 → Nat :=
  let c1_200 : Index := 1#32
  let c0_i32 : BitVec 32 := 0#32
  let c1_i32 : BitVec 32 := 1#32
  let arg7 : BitVec 32 := Scf.iv c0_i32 c1_i32 k0_t1
  let c128_i32 : BitVec 32 := 128#32
  let v95 : BitVec 32 := Scalar.muli arg7 c128_i32
  let v1141 : Index := Scalar.indexCast v95
  let c896_201 : Index := 896#32
  ![1, v1141.toNat, 896]
@[reducible] def k0_t2_loop : Scf.Loop 32 :=
  let c0_i32_72 : BitVec 32 := 0#32
  let c8_i32_73 : BitVec 32 := 8#32
  let v111 : BitVec 32 := Scalar.addi c0_i32_72 c8_i32_73
  let c1_i32_74 : BitVec 32 := 1#32
  ⟨c0_i32_72, v111, c1_i32_74⟩
def k0_off19 (k0_t2 : Fin k0_t2_loop.trips) : Fin 3 → Nat :=
  let c0_77 : Index := 0#32
  let c0_i32_72 : BitVec 32 := 0#32
  let c1_i32_74 : BitVec 32 := 1#32
  let arg12 : BitVec 32 := Scf.iv c0_i32_72 c1_i32_74 k0_t2
  let c128_i32 : BitVec 32 := 128#32
  let v116 : BitVec 32 := Scalar.muli arg12 c128_i32
  let v117 : Index := Scalar.indexCast v116
  let c0_78 : Index := 0#32
  ![0, v117.toNat, 0]
def k0_off20 (k0_t2 : Fin k0_t2_loop.trips) : Fin 3 → Nat :=
  let c1_87 : Index := 1#32
  let c0_i32_72 : BitVec 32 := 0#32
  let c1_i32_74 : BitVec 32 := 1#32
  let arg12 : BitVec 32 := Scf.iv c0_i32_72 c1_i32_74 k0_t2
  let c128_i32 : BitVec 32 := 128#32
  let v116 : BitVec 32 := Scalar.muli arg12 c128_i32
  let v139 : Index := Scalar.indexCast v116
  let c0_88 : Index := 0#32
  ![1, v139.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x900x900 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x900x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x900x4 : Shape := ⟨3, ![32, 900, 4]⟩
abbrev S32x900x91 : Shape := ⟨3, ![32, 900, 91]⟩
abbrev S32x900x1 : Shape := ⟨3, ![32, 900, 1]⟩
abbrev S_ : Shape := ⟨0, ![]⟩
abbrev S32x900 : Shape := ⟨2, ![32, 900]⟩
abbrev S32x900x2 : Shape := ⟨3, ![32, 900, 2]⟩
abbrev S32x900x1x2 : Shape := ⟨4, ![32, 900, 1, 2]⟩
abbrev S32x1x900x2 : Shape := ⟨4, ![32, 1, 900, 2]⟩
abbrev S32x900x900x2 : Shape := ⟨4, ![32, 900, 900, 2]⟩
abbrev S32x900x900x1 : Shape := ⟨4, ![32, 900, 900, 1]⟩
abbrev S32x900x900 : Shape := ⟨3, ![32, 900, 900]⟩
abbrev S32x1x900 : Shape := ⟨3, ![32, 1, 900]⟩

abbrev nBuf : Space → Nat
  | .hbm => 126
  | .vmem => 0
  | .smem => 0
  | _ => 0

abbrev bufTy : (tb : Table) → Fin (tcTables nBuf tb) → BufTy
  | .hbm, ⟨0, _⟩ => ⟨S32x900x4, .f32⟩
  | .hbm, ⟨1, _⟩ => ⟨S32x900x91, .f32⟩
  | .hbm, ⟨2, _⟩ => ⟨S32x900x1, .f32⟩
  | .hbm, ⟨3, _⟩ => ⟨S32x900x1, .f32⟩
  | .hbm, ⟨4, _⟩ => ⟨S32x900x1, .f32⟩
  | .hbm, ⟨5, _⟩ => ⟨S32x900x1, .f32⟩
  | .hbm, ⟨6, _⟩ => ⟨S_, .f32⟩
  | .hbm, ⟨7, _⟩ => ⟨S32x900x1, .f32⟩
  | .hbm, ⟨8, _⟩ => ⟨S32x900x1, .f32⟩
  | .hbm, ⟨9, _⟩ => ⟨S32x900x1, .f32⟩
  | .hbm, ⟨10, _⟩ => ⟨S_, .f32⟩
  | .hbm, ⟨11, _⟩ => ⟨S32x900x1, .f32⟩
  | .hbm, ⟨12, _⟩ => ⟨S32x900x1, .f32⟩
  | .hbm, ⟨13, _⟩ => ⟨S32x900x1, .f32⟩
  | .hbm, ⟨14, _⟩ => ⟨S_, .f32⟩
  | .hbm, ⟨15, _⟩ => ⟨S32x900x1, .f32⟩
  | .hbm, ⟨16, _⟩ => ⟨S32x900x1, .f32⟩
  | .hbm, ⟨17, _⟩ => ⟨S32x900x1, .f32⟩
  | .hbm, ⟨18, _⟩ => ⟨S_, .f32⟩
  | .hbm, ⟨19, _⟩ => ⟨S32x900x1, .f32⟩
  | .hbm, ⟨20, _⟩ => ⟨S32x900x1, .f32⟩
  | .hbm, ⟨21, _⟩ => ⟨S32x900x1, .f32⟩
  | .hbm, ⟨22, _⟩ => ⟨S32x900x4, .f32⟩
  | .hbm, ⟨23, _⟩ => ⟨S32x900x1, .f32⟩
  | .hbm, ⟨24, _⟩ => ⟨S32x900, .f32⟩
  | .hbm, ⟨25, _⟩ => ⟨S32x900x1, .f32⟩
  | .hbm, ⟨26, _⟩ => ⟨S32x900, .f32⟩
  | .hbm, ⟨27, _⟩ => ⟨S32x900, .f32⟩
  | .hbm, ⟨28, _⟩ => ⟨S32x900x1, .f32⟩
  | .hbm, ⟨29, _⟩ => ⟨S32x900, .f32⟩
  | .hbm, ⟨30, _⟩ => ⟨S32x900x1, .f32⟩
  | .hbm, ⟨31, _⟩ => ⟨S32x900, .f32⟩
  | .hbm, ⟨32, _⟩ => ⟨S32x900, .f32⟩
  | .hbm, ⟨33, _⟩ => ⟨S32x900, .f32⟩
  | .hbm, ⟨34, _⟩ => ⟨S32x900x2, .f32⟩
  | .hbm, ⟨35, _⟩ => ⟨S32x900x1x2, .f32⟩
  | .hbm, ⟨36, _⟩ => ⟨S32x900x2, .f32⟩
  | .hbm, ⟨37, _⟩ => ⟨S32x1x900x2, .f32⟩
  | .hbm, ⟨38, _⟩ => ⟨S32x900x900x2, .f32⟩
  | .hbm, ⟨39, _⟩ => ⟨S32x900x900x2, .f32⟩
  | .hbm, ⟨40, _⟩ => ⟨S32x900x900x2, .f32⟩
  | .hbm, ⟨41, _⟩ => ⟨S32x900x2, .f32⟩
  | .hbm, ⟨42, _⟩ => ⟨S32x900x1x2, .f32⟩
  | .hbm, ⟨43, _⟩ => ⟨S32x900x2, .f32⟩
  | .hbm, ⟨44, _⟩ => ⟨S32x1x900x2, .f32⟩
  | .hbm, ⟨45, _⟩ => ⟨S32x900x900x2, .f32⟩
  | .hbm, ⟨46, _⟩ => ⟨S32x900x900x2, .f32⟩
  | .hbm, ⟨47, _⟩ => ⟨S32x900x900x2, .f32⟩
  | .hbm, ⟨48, _⟩ => ⟨S32x900x900x2, .f32⟩
  | .hbm, ⟨49, _⟩ => ⟨S_, .f32⟩
  | .hbm, ⟨50, _⟩ => ⟨S_, .f32⟩
  | .hbm, ⟨51, _⟩ => ⟨S32x900x900x2, .f32⟩
  | .hbm, ⟨52, _⟩ => ⟨S32x900x900x2, .f32⟩
  | .hbm, ⟨53, _⟩ => ⟨S32x900x900x1, .f32⟩
  | .hbm, ⟨54, _⟩ => ⟨S32x900x900, .f32⟩
  | .hbm, ⟨55, _⟩ => ⟨S32x900x900x1, .f32⟩
  | .hbm, ⟨56, _⟩ => ⟨S32x900x900, .f32⟩
  | .hbm, ⟨57, _⟩ => ⟨S32x900x900, .f32⟩
  | .hbm, ⟨58, _⟩ => ⟨S32x900x1, .f32⟩
  | .hbm, ⟨59, _⟩ => ⟨S32x1x900, .f32⟩
  | .hbm, ⟨60, _⟩ => ⟨S32x900x900, .f32⟩
  | .hbm, ⟨61, _⟩ => ⟨S32x900x900, .f32⟩
  | .hbm, ⟨62, _⟩ => ⟨S32x900x900, .f32⟩
  | .hbm, ⟨63, _⟩ => ⟨S32x900x900, .f32⟩
  | .hbm, ⟨64, _⟩ => ⟨S32x900x900, .f32⟩
  | .hbm, ⟨65, _⟩ => ⟨S32x900x2, .f32⟩
  | .hbm, ⟨66, _⟩ => ⟨S32x900x1x2, .f32⟩
  | .hbm, ⟨67, _⟩ => ⟨S32x900x2, .f32⟩
  | .hbm, ⟨68, _⟩ => ⟨S32x1x900x2, .f32⟩
  | .hbm, ⟨69, _⟩ => ⟨S32x900x900x2, .f32⟩
  | .hbm, ⟨70, _⟩ => ⟨S32x900x900x2, .f32⟩
  | .hbm, ⟨71, _⟩ => ⟨S32x900x900x2, .f32⟩
  | .hbm, ⟨72, _⟩ => ⟨S32x900x2, .f32⟩
  | .hbm, ⟨73, _⟩ => ⟨S32x900x1x2, .f32⟩
  | .hbm, ⟨74, _⟩ => ⟨S32x900x2, .f32⟩
  | .hbm, ⟨75, _⟩ => ⟨S32x1x900x2, .f32⟩
  | .hbm, ⟨76, _⟩ => ⟨S32x900x900x2, .f32⟩
  | .hbm, ⟨77, _⟩ => ⟨S32x900x900x2, .f32⟩
  | .hbm, ⟨78, _⟩ => ⟨S32x900x900x2, .f32⟩
  | .hbm, ⟨79, _⟩ => ⟨S32x900x900x2, .f32⟩
  | .hbm, ⟨80, _⟩ => ⟨S_, .f32⟩
  | .hbm, ⟨81, _⟩ => ⟨S_, .f32⟩
  | .hbm, ⟨82, _⟩ => ⟨S32x900x900x2, .f32⟩
  | .hbm, ⟨83, _⟩ => ⟨S32x900x900x2, .f32⟩
  | .hbm, ⟨84, _⟩ => ⟨S32x900x900x1, .f32⟩
  | .hbm, ⟨85, _⟩ => ⟨S32x900x900, .f32⟩
  | .hbm, ⟨86, _⟩ => ⟨S32x900x900x1, .f32⟩
  | .hbm, ⟨87, _⟩ => ⟨S32x900x900, .f32⟩
  | .hbm, ⟨88, _⟩ => ⟨S32x900x900, .f32⟩
  | .hbm, ⟨89, _⟩ => ⟨S32x900x900, .f32⟩
  | .hbm, ⟨90, _⟩ => ⟨S32x900x900, .f32⟩
  | .hbm, ⟨91, _⟩ => ⟨S32x900x900, .f32⟩
  | .hbm, ⟨92, _⟩ => ⟨S_, .f32⟩
  | .hbm, ⟨93, _⟩ => ⟨S32x900x900, .f32⟩
  | .hbm, ⟨94, _⟩ => ⟨S32x900x900, .i1⟩
  | .hbm, ⟨95, _⟩ => ⟨S32x900x900, .i1⟩
  | .hbm, ⟨96, _⟩ => ⟨S32x900x900, .i1⟩
  | .hbm, ⟨97, _⟩ => ⟨S32x900x900, .f32⟩
  | .hbm, ⟨98, _⟩ => ⟨S_, .i32⟩
  | .hbm, ⟨99, _⟩ => ⟨S_, .i1⟩
  | .hbm, ⟨100, _⟩ => ⟨S_, .i32⟩
  | .hbm, ⟨101, _⟩ => ⟨S32x900x900, .f32⟩
  | .hbm, ⟨102, _⟩ => ⟨S_, .i1⟩
  | .hbm, ⟨103, _⟩ => ⟨S_, .i32⟩
  | .hbm, ⟨104, _⟩ => ⟨S_, .i1⟩
  | .hbm, ⟨105, _⟩ => ⟨S_, .i1⟩
  | .hbm, ⟨106, _⟩ => ⟨S32x900x900, .f32⟩
  | .hbm, ⟨107, _⟩ => ⟨S32x900x900, .f32⟩
  | .hbm, ⟨108, _⟩ => ⟨S_, .f32⟩
  | .hbm, ⟨109, _⟩ => ⟨S32x900x900, .f32⟩
  | .hbm, ⟨110, _⟩ => ⟨S32x900x900, .i1⟩
  | .hbm, ⟨111, _⟩ => ⟨S32x900x900, .f32⟩
  | .hbm, ⟨112, _⟩ => ⟨S_, .i32⟩
  | .hbm, ⟨113, _⟩ => ⟨S_, .i32⟩
  | .hbm, ⟨114, _⟩ => ⟨S32x900x900, .i1⟩
  | .hbm, ⟨115, _⟩ => ⟨S_, .i1⟩
  | .hbm, ⟨116, _⟩ => ⟨S_, .i1⟩
  | .hbm, ⟨117, _⟩ => ⟨S_, .f32⟩
  | .hbm, ⟨118, _⟩ => ⟨S32x900, .f32⟩
  | .hbm, ⟨119, _⟩ => ⟨S32x900x1, .f32⟩
  | .hbm, ⟨120, _⟩ => ⟨S_, .f32⟩
  | .hbm, ⟨121, _⟩ => ⟨S32x900x1, .f32⟩
  | .hbm, ⟨122, _⟩ => ⟨S32x900x1, .f32⟩
  | .hbm, ⟨123, _⟩ => ⟨S32x900x4, .f32⟩
  | .hbm, ⟨124, _⟩ => ⟨S32x900x4, .f32⟩
  | .hbm, ⟨125, _⟩ => ⟨S32x900x4, .f32⟩
  | _, _ => ⟨S32x900x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst_3 : Ref sig .tc := ⟨.hbm, 49, rfl⟩
abbrev main_call0_v0 : Ref sig .tc := ⟨.hbm, 50, rfl⟩
abbrev main_call0_v1 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_call1_v0 : Ref sig .tc := ⟨.hbm, 81, rfl⟩
abbrev main_call1_v1 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_c : Ref sig .tc := ⟨.hbm, 98, rfl⟩
abbrev main_c_6 : Ref sig .tc := ⟨.hbm, 99, rfl⟩
abbrev main_v85_0 : Ref sig .tc := ⟨.hbm, 100, rfl⟩
abbrev main_v85_1 : Ref sig .tc := ⟨.hbm, 101, rfl⟩
abbrev main_v85_2 : Ref sig .tc := ⟨.hbm, 102, rfl⟩
abbrev main_while0c_c_11 : Ref sig .tc := ⟨.hbm, 103, rfl⟩
abbrev main_while0c_v93 : Ref sig .tc := ⟨.hbm, 104, rfl⟩
abbrev main_while0c_v94 : Ref sig .tc := ⟨.hbm, 105, rfl⟩
abbrev main_while0b_v93 : Ref sig .tc := ⟨.hbm, 106, rfl⟩
abbrev main_while0b_v94 : Ref sig .tc := ⟨.hbm, 107, rfl⟩
abbrev main_while0b_cst_11 : Ref sig .tc := ⟨.hbm, 108, rfl⟩
abbrev main_while0b_v95 : Ref sig .tc := ⟨.hbm, 109, rfl⟩
abbrev main_while0b_v96 : Ref sig .tc := ⟨.hbm, 110, rfl⟩
abbrev main_while0b_v97 : Ref sig .tc := ⟨.hbm, 111, rfl⟩
abbrev main_while0b_c_12 : Ref sig .tc := ⟨.hbm, 112, rfl⟩
abbrev main_while0b_v98 : Ref sig .tc := ⟨.hbm, 113, rfl⟩
abbrev main_while0b_v99 : Ref sig .tc := ⟨.hbm, 114, rfl⟩
abbrev main_while0b_c_13 : Ref sig .tc := ⟨.hbm, 115, rfl⟩
abbrev main_while0b_v100 : Ref sig .tc := ⟨.hbm, 116, rfl⟩
abbrev main_cst_7 : Ref sig .tc := ⟨.hbm, 117, rfl⟩
abbrev main_v86 : Ref sig .tc := ⟨.hbm, 118, rfl⟩
abbrev main_v87 : Ref sig .tc := ⟨.hbm, 119, rfl⟩
abbrev main_cst_8 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩

abbrev nD : Nat := 1
abbrev τ : Topo := Topo.v7x

variable {F : FTy → Type} [FloatOps F]
-- ==== Proof.KI.Sweep.lean ====
/-
  One sweep over a point's two adjacency planes, as the kernel's counted loop runs it: eight trips, each of which loads
  128 rows of both planes and of both products, writes the rows `1` where the sum of the two exceeds the threshold and
  `0` elsewhere, and adds the number of ones to the plane's running count. The loop is described by a plain function of
  vectors (`tripState`, `sweep`), and the program is proved to compute it (`sweep_run`).
-/
module

public import proofs.«01_k».proof.Proof.Gen.KernelIdeal.Loops
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What a sweep carries: the two planes' running counts, and the planes. -/
abbrev SweepState (F : FTy → Type) [FloatOps F] : Type := (F .f32 × F .f32) × Vec F S2x1024x1024 .bf16

/-- The 128 rows of plane 0 that trip `k` handles. -/
abbrev rowsA {e : EltTy} (A : Vec F S2x1024x1024 e) (k : Fin k0_t2_loop.trips) : Vec F S1x128x1024 e :=
  VecWindow.window A (k0_off19 k) S1x128x1024.size (k0_off19_inb k)

/-- The 128 rows of plane 1 that trip `k` handles. -/
abbrev rowsB {e : EltTy} (A : Vec F S2x1024x1024 e) (k : Fin k0_t2_loop.trips) : Vec F S1x128x1024 e :=
  VecWindow.window A (k0_off20 k) S1x128x1024.size (k0_off20_inb k)

/-- One trip on the state: both planes' rows rewritten from the rows found and the products `M`, the counts advanced. -/
def tripState (M : Vec F S2x1024x1024 .f32) (k : Fin k0_t2_loop.trips) (s : SweepState F) : SweepState F :=
  ((k0_pay6 s.1.1 (k0_pay190 (rowsA s.2 k) (rowsA M k)), k0_pay7 s.1.2 (k0_pay191 (rowsB s.2 k) (rowsB M k))),
   VecWindow.put (VecWindow.put s.2 (k0_off19 k) S1x128x1024.size (k0_pay189 (rowsA s.2 k) (rowsA M k)))
     (k0_off20 k) S1x128x1024.size (k0_pay5 (k0_pay192 (rowsB s.2 k) (rowsB M k))))

/-- The state after the first `k` trips. -/
def sweep (M : Vec F S2x1024x1024 .f32) (s : SweepState F) : ℕ → SweepState F
  | 0 => s
  | k + 1 => if h : k < k0_t2_loop.trips then tripState M ⟨k, h⟩ (sweep M s k) else sweep M s k

/-- After trip `k` the state is that trip's on the state before it. -/
theorem sweep_succ (M : Vec F S2x1024x1024 .f32) (s : SweepState F) (k : Fin k0_t2_loop.trips) :
    sweep M s (k.val + 1) = tripState M k (sweep M s k.val) := dif_pos k.isLt

section Trip

variable (𝒱 : Variants) (c : Dev nD) (bd : Option 𝒱.V) (E : Set ℕ) (i : grid0.Coords)
  (arg5 : Memref sig .tc .vmem S2x1024x1024 .bf16) (harg5 : arg5.IsWhole)
  (arg6 : Memref sig .tc .vmem S2x1024x1024 .f32) (harg6 : arg6.IsWhole)
  (arg7 : BitVec 32) (arg8 arg9 : F .f32) (arg10 arg11 : BitVec 1)

/-- The region of the sweep's counted loop, as the label's function spells it. -/
def region (k0_t2 : Fin k0_t2_loop.trips) (acc : F .f32 × F .f32) :
    Prog (TpuEff nD τ sig (Elt F) (Λ₀ F) .tc) (F .f32 × F .f32) :=
  match acc with
  | (arg13, arg14) => do
    let ⟨v138, v151, v152⟩ ← k0_part23 i arg5 harg5 arg6 harg6 arg7 arg8 arg9 arg10 arg11 0#32 1#32 k0_t2
    let _ : Vec F S1x128x1024 .bf16 ← Prog.lift (.load arg5 (Rect.unit (s := S2x1024x1024) (k0_off20 k0_t2) S1x128x1024.size (k0_off20_inb k0_t2)).toLoadRect (View.loadsAt_vmem h_S1x128x1024))
    Prog.lift (.store arg5 (Rect.unit (s := S2x1024x1024) (k0_off20 k0_t2) S1x128x1024.size (k0_off20_inb k0_t2)) (k0_pay5 v152) Finset.univ (View.stores_vmem h_S1x128x1024 (harg5.storeExact_slice rfl _ (k0_off20_packedbf16 k0_t2)) (fun _ => rfl)) (.inl rfl))
    pure (k0_pay6 arg13 v138, k0_pay7 arg14 v151)

/-- What the loop holds before trip `k`: the products as they are, the planes and the counts after `k` trips. -/
abbrev sweepInv (X6 : BufTy.Contents (Elt F) arg6.view.ty) (s : SweepState F) (k : ℕ) (acc : F .f32 × F .f32) : sProp 𝕄 :=
  iprop((arg6.view.loc (c : Thread nD τ) ↦[arg6.view.set]{fullShare} X6)
    ∗ (∃ f, (arg5.view.loc (c : Thread nD τ) ↦[arg5.view.set]{fullShare} f) ∗ ⌜arg5.view.read (Elt F) f = (sweep (arg6.view.read (Elt F) X6) s k).2⌝)
    ∗ ⌜acc = (sweep (arg6.view.read (Elt F) X6) s k).1⌝)

/-- One trip of the loop carries the invariant from `k` to `k + 1`. -/
theorem trip_run (X6 : BufTy.Contents (Elt F) arg6.view.ty) (s : SweepState F) (k : Fin k0_t2_loop.trips) (acc : F .f32 × F .f32) :
    sweepInv c arg5 arg6 X6 s k.val acc
      ⊢ wp frame (wpE (defs₀ (F := F)) 𝒱 (c : Thread nD τ) bd) E
          (region i arg5 harg5 arg6 harg6 arg7 arg8 arg9 arg10 arg11 k acc) (sweepInv c arg5 arg6 X6 s (k.val + 1)) := by
  have hk : k.val < 8 := Nat.lt_of_lt_of_le k.isLt k0_t2_abs.2.1
  obtain ⟨a13, a14⟩ := acc
  unfold region
  simp only [k0_part23_eq_skeleton]
  unfold sweepInv
  iintro ⟨H6, ⟨%f, H5, %hf⟩, %hacc⟩
  sl_exec
  sl_step
  isplitl [H6]; · iexact H6
  isplitl [H5]
  · iexists _; isplitl [H5]; · iexact H5
    ipureintro
    rw [sweep_succ, View.read_writes_cons_put _ _ _ _ _ rfl, View.read_writes_cons_put _ _ _ _ _ rfl, View.writes_nil]
    unfold tripState
    rw [← hf]; rfl
  ipureintro
  rw [sweep_succ]
  obtain ⟨h13, h14⟩ := Prod.ext_iff.mp hacc
  dsimp only at h13 h14
  unfold tripState
  rw [← hf, h13, h14]; rfl

end Trip

end Cert.Proof.KI

end
-- ==== Proof.KI.While.lean ====
/-
  The kernel's repetition: while either plane's count of ones grew in the last sweep and fewer than 900 sweeps have run,
  multiply both planes by themselves and sweep. The repetition is described by a plain function of vectors
  (`closure`), and the label the kernel calls is proved to compute it (`spec_le`), by induction on the sweeps left.
-/
module

public import proofs.«01_k».proof.Proof.KI.Sweep
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Plane `0` and plane `1` of a pair of planes. -/
abbrev planeA {e : EltTy} (A : Vec F S2x1024x1024 e) : Vec F S1x1024x1024 e :=
  VecWindow.window A ![0, 0, 0] S1x1024x1024.size inb_S2x1024x1024_S1x1024x1024_0_0_0
@[inherit_doc planeA] abbrev planeB {e : EltTy} (A : Vec F S2x1024x1024 e) : Vec F S1x1024x1024 e :=
  VecWindow.window A ![1, 0, 0] S1x1024x1024.size inb_S2x1024x1024_S1x1024x1024_1_0_0

/-- Two planes side by side, over whatever was there. -/
def pairOver {e : EltTy} (X : Vec F S2x1024x1024 e) (a b : Vec F S1x1024x1024 e) : Vec F S2x1024x1024 e :=
  VecWindow.put (VecWindow.put X ![0, 0, 0] S1x1024x1024.size a) ![1, 0, 0] S1x1024x1024.size b

/-- The two planes fill the pair, so what was there does not matter. -/
theorem pairOver_eq {e : EltTy} (X Y : Vec F S2x1024x1024 e) (a b : Vec F S1x1024x1024 e) : pairOver X a b = pairOver Y a b := by
  funext y
  unfold pairOver VecWindow.put
  by_cases h1 : ∀ a, (![1, 0, 0] : Fin 3 → ℕ) a ≤ (y a).val ∧ (y a).val < (![1, 0, 0] : Fin 3 → ℕ) a + S1x1024x1024.size a
  · rw [dif_pos h1, dif_pos h1]
  · rw [dif_neg h1, dif_neg h1]
    have h0 : ∀ a, (![0, 0, 0] : Fin 3 → ℕ) a ≤ (y a).val ∧ (y a).val < (![0, 0, 0] : Fin 3 → ℕ) a + S1x1024x1024.size a := by
      have hy0 : (y 0).val < 2 := (y 0).isLt
      have hy1 : (y 1).val < 1024 := (y 1).isLt
      have hy2 : (y 2).val < 1024 := (y 2).isLt
      have hne : (y 0).val ≠ 1 := fun hc => h1 fun a => by
        match a with
        | ⟨0, _⟩ => exact ⟨le_of_eq hc.symm, by show (y 0).val < 2; omega⟩
        | ⟨1, _⟩ => exact ⟨Nat.zero_le _, by show (y 1).val < 0 + 1024; omega⟩
        | ⟨2, _⟩ => exact ⟨Nat.zero_le _, by show (y 2).val < 0 + 1024; omega⟩
      intro a
      match a with
      | ⟨0, _⟩ => exact ⟨Nat.zero_le _, by show (y 0).val < 0 + 1; omega⟩
      | ⟨1, _⟩ => exact ⟨Nat.zero_le _, by show (y 1).val < 0 + 1024; omega⟩
      | ⟨2, _⟩ => exact ⟨Nat.zero_le _, by show (y 2).val < 0 + 1024; omega⟩
    rw [dif_pos h0, dif_pos h0]

/-- Both planes multiplied by themselves. -/
def prodOf (A : Vec F S2x1024x1024 .bf16) : Vec F S2x1024x1024 .f32 :=
  pairOver (fun _ => Scalar.ofBits .f32 0x00000000#32) (k0_pay3 (planeA A) (planeA A)) (k0_pay4 (planeB A) (planeB A))

/-- One sweep from planes `A`: the products taken of the planes found, the counts from zero. -/
def sweepAll (A : Vec F S2x1024x1024 .bf16) : SweepState F :=
  sweep (prodOf A) ((Scalar.ofBits .f32 0x00000000#32, Scalar.ofBits .f32 0x00000000#32), A) k0_t2_loop.trips

/-- At most `n` more sweeps, as long as one of the two marks says that a count grew. -/
def closure : ℕ → BitVec 1 → BitVec 1 → SweepState F → SweepState F
  | 0, _, _, s => s
  | n + 1, c0, c1, s =>
    if Scalar.ori c0 c1 = 1#1 then
      closure n (Scalar.cmpf .ogt (sweepAll s.2).1.1 s.1.1) (Scalar.cmpf .ogt (sweepAll s.2).1.2 s.1.2) (sweepAll s.2)
    else s

/-- The variants of the certificate: one natural number, the sweeps left. -/
abbrev 𝒱₀ : Variants := Variants.nat

section Label

variable (c : Dev nD) (i : grid0.Coords)
  (arg5 : Memref sig .tc .vmem S2x1024x1024 .bf16) (harg5 : arg5.IsWhole)
  (arg6 : Memref sig .tc .vmem S2x1024x1024 .f32) (harg6 : arg6.IsWhole)

/-- The planes owned at `A`, the products at anything. -/
def held (A : Vec F S2x1024x1024 .bf16) : sProp 𝕄 :=
  iprop(owns (c : Thread nD τ) arg5 fullShare A ∗ ∃ d, owns (c : Thread nD τ) arg6 fullShare d)

/-- The label's specification with `n` sweeps left: from the planes of `s` it leaves those of `closure n c0 c1 s`. -/
def spec (n : ℕ) (c0 c1 : BitVec 1) (s : SweepState F) : sWPT 𝕄 (BitVec 32 × F .f32 × F .f32 × BitVec 1 × BitVec 1) := do
  sWPT.consume (held c arg5 arg6 s.2)
  let r ← sWPT.arbitrary
  sWPT.produce (held c arg5 arg6 (closure n c0 c1 s).2)
  pure r

/-- The specification read at a continuation. -/
theorem spec_apply (n : ℕ) (c0 c1 : BitVec 1) (s : SweepState F) (K : BitVec 32 × F .f32 × F .f32 × BitVec 1 × BitVec 1 → sProp 𝕄) :
    spec c arg5 arg6 n c0 c1 s K
      = iprop(held c arg5 arg6 s.2 ∗ ∀ r, (held c arg5 arg6 (closure n c0 c1 s).2 -∗ K r)) := rfl

/-- The counter's test, at a count below 900. -/
theorem test_lt (t : ℕ) (ht : t < 900) (b : BitVec 1) : Scalar.andi b (Scalar.cmpi .slt (BitVec.ofNat 32 t) 900#32) = b := by
  have h : Scalar.cmpi .slt (BitVec.ofNat 32 t) 900#32 = 1#1 := by
    show BitVec.ofBool (decide ((BitVec.ofNat 32 t).toInt < (900#32).toInt)) = 1#1
    have : (BitVec.ofNat 32 t).toInt = t := by
      rw [BitVec.toInt_ofNat']; exact Int.bmod_eq_of_le (by omega) (by omega)
    have hk : (900#32).toInt = 900 := by decide
    rw [this, hk, decide_eq_true (by omega)]; rfl
  rw [h]
  revert b; decide

/-- The counter's test, at 900. -/
theorem test_end (b : BitVec 1) : ¬ Scalar.andi b (Scalar.cmpi .slt (BitVec.ofNat 32 900) 900#32) = 1#1 := by
  revert b; decide

/-- The counter's step. -/
theorem succ_word (t : ℕ) : Scalar.addi (BitVec.ofNat 32 t) 1#32 = BitVec.ofNat 32 (t + 1) := by
  show BitVec.ofNat 32 t + BitVec.ofNat 32 1 = _
  rw [← BitVec.ofNat_add]

/-- The label's body, entered with `n` sweeps left after `t`, meets the specification. -/
theorem spec_le (E : Set ℕ) : ∀ n t, t + n = 900 → ∀ (c0 c1 : BitVec 1) (s : SweepState F) K,
    spec c arg5 arg6 n c0 c1 s K
      ⊢ wp frame (wpE (defs₀ (F := F)) 𝒱₀ (c : Thread nD τ) (some n)) E
          (defs₀ (F := F) .tc 1 ⟨i, arg5, harg5, arg6, harg6, BitVec.ofNat 32 t, s.1.1, s.1.2, c0, c1⟩) K := by
  intro n
  induction n with
  | zero =>
    intro t ht c0 c1 s K
    obtain rfl : t = 900 := by omega
    rw [spec_apply]
    show _ ⊢ wp frame (wpE (defs₀ (F := F)) 𝒱₀ (c : Thread nD τ) (some 0)) E
      (cc0_while1 i arg5 harg5 arg6 harg6 (BitVec.ofNat 32 900) s.1.1 s.1.2 c0 c1) K
    simp only [cc0_while1_eq_skeleton]; unfold cc0_while1_skel
    simp only [test_end, ↓reduceIte, Prog.pure_eq_ret]
    iintro ⟨H, Hk⟩
    rw [wp_ret]; imodintro
    iapply Hk
    iexact H
  | succ n ih =>
    intro t ht c0 c1 s K
    rw [spec_apply]
    show _ ⊢ wp frame (wpE (defs₀ (F := F)) 𝒱₀ (c : Thread nD τ) (some (n + 1))) E
      (cc0_while1 i arg5 harg5 arg6 harg6 (BitVec.ofNat 32 t) s.1.1 s.1.2 c0 c1) K
    simp only [cc0_while1_eq_skeleton]; unfold cc0_while1_skel
    simp only [test_lt t (by omega)]
    by_cases hor : Scalar.ori c0 c1 = 1#1
    · simp only [hor, ↓reduceIte]
      rw [closure, if_pos hor]
      unfold held owns
      iintro ⟨⟨⟨%f5, %hf5, H5⟩, ⟨%d6, %f6, -, H6⟩⟩, Hk⟩
      sl_exec
      ihave H6 : iprop(∃ X, (arg6.view.loc (c : Thread nD τ) ↦[arg6.view.set]{fullShare} X) ∗ ⌜arg6.view.read (Elt F) X = prodOf s.2⌝) $$ [H6]
      · iexists _; isplitl [H6]; · iexact H6
        ipureintro
        refine (View.read_writes_cons_put _ _ _ _ _ rfl).trans ?_
        rw [View.read_writes_cons_put _ _ _ _ _ rfl, View.writes_nil]
        rw [← hf5]
        exact pairOver_eq _ _ _ _
      icases H6 with ⟨%X6, H6, %hX6⟩
      sl_for (sweepInv c arg5 arg6 X6 ((Scalar.ofBits .f32 0x00000000#32, Scalar.ofBits .f32 0x00000000#32), s.2)) $$ [H5 H6]
      case region =>
        intro k acc
        exact trip_run 𝒱₀ c (some (n + 1)) E i arg5 harg5 arg6 harg6 _ _ _ _ _ _ _ k acc
      · isplitl [H6]
        · iexact H6
        isplitl [H5]
        · iexists _; isplitl [H5]; · iexact H5
          ipureintro; exact hf5
        ipureintro; rfl
      iintro %acc ⟨H6, ⟨%g5, H5, %hg5⟩, %hacc⟩
      rw [hX6] at hg5 hacc
      change _ = (sweepAll s.2).2 at hg5
      change _ = (sweepAll s.2).1 at hacc
      subst hacc
      unfold spec_le.sl.prog.cont_1
      rw [succ_word]
      simp only [Prog.lift, Prog.bind_op, Prog.bind_ret]
      iapply (wp_call_spec 𝒱₀ (c : Thread nD τ) (some (n + 1)) E
        (spec c arg5 arg6 n (Scalar.cmpf .ogt (sweepAll s.2).1.1 s.1.1) (Scalar.cmpf .ogt (sweepAll s.2).1.2 s.1.2) (sweepAll s.2)) n
        (fun u hu => by cases hu; exact Nat.lt_succ_self n) (ih (t + 1) (by omega) _ _ (sweepAll s.2)))
      rw [spec_apply]; unfold held owns
      isplitl [H5 H6]
      · isplitl [H5]
        · iexists _; isplitr; · ipureintro; exact hg5
          iexact H5
        iexists _, _; isplitr; swap; · iexact H6
        ipureintro; rfl
      iintro %r H
      rw [wp_ret]; imodintro
      iapply Hk
      iexact H
    · simp only [hor, ↓reduceIte, Prog.pure_eq_ret]
      rw [closure, if_neg hor]
      iintro ⟨H, Hk⟩
      rw [wp_ret]; imodintro
      iapply Hk
      iexact H

end Label

end Cert.Proof.KI

end
-- ==== Proof.KI.Setup.lean ====
/-
  The launch: the contents of the arrays when the kernel's region is entered, the blocks of its windows, how the
  arguments' final contents are read off a run, and the memrefs the pipeline passes the kernel.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the axes are long
set_option maxRecDepth 16384

noncomputable section

namespace Cert.Proof.KI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`. -/
abbrev V (c : Dev nD) (b : Ref sig .tc) : Buf (Elt F) ((c : Thread nD τ).loc b) :=
  StableHlo.after (List.flatten [hostOps0, hostOps0_1, hostOps0_2, hostOps0_3]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMain (Ix := Unit) (Name := ℕ) (U := UR sig nD τ) (Lvl := ℕ) (cfgs (F := F)) 0 defs₀ 𝒱₀ m (main (F := F)) (V m) :=
  Pipeline.hmain_prefixes (cfgs (F := F)) 0 defs₀ 𝒱₀ m main [hostOps0, hostOps0_1, hostOps0_2, hostOps0_3] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ (cfg0 (F := F)) c) (hA : dat.A 0 = V m c (Pipeline.arrRef spec0 0))
    (hafter : ∀ t, dat.after 0 t = iblk m c 0 t) (t : Fin (cfg0 (F := F)).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ (cfg0 (F := F)) c) (hA : dat.A 1 = V m c (Pipeline.arrRef spec0 1))
    (hafter : ∀ t, dat.after 1 t = iblk m c 1 t) (t : Fin (cfg0 (F := F)).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs (F := F) p) c)
    (hA : ∀ c w, (dats 0 c).A w = V m c (Pipeline.arrRef spec0 w))
    (h : θ_run defs (onTc (τ := τ) (main (F := F))) (s₀ m ρ) (Pipeline.FramePost (cfgs (F := F)) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (show ∀ w, (spec0 w).arr.view.ref ≠ main_arg0 by decide))).trans (V_main_arg0 m c),
      ((h c).2 main_arg1 (Pipeline.mem_restRefs_of main_arg1 (by decide) (show ∀ w, (spec0 w).arr.view.ref ≠ main_arg1 by decide))).trans (V_main_arg1 m c)⟩) h

/-! ## The kernel body on any staging memrefs: a subtype the run finds -/

/-- One staging buffer of output window 2, through which its contents are stated (`View.read_writes_of_cover`: the
    choice does not matter). -/
abbrev VO0_2 : View sig .tc .vmem S2x900x900 .f32 := (Memref.whole cc0_stg2_0 : Memref sig .tc .vmem S2x900x900 .f32).view
/-- One staging buffer of output window 3, through which its contents are stated (`View.read_writes_of_cover`: the
    choice does not matter). -/
abbrev VO0_3 : View sig .tc .vmem S2x900x4 .f32 := (Memref.whole cc0_stg3_0 : Memref sig .tc .vmem S2x900x4 .f32).view
/-- Each window's current staging memref at point `t`, spelled as the pipeline passes it (`bodyAt0`), and its wholeness. -/
abbrev ms0_0 (t : Fin (cfg0 (F := F)).N) : Memref sig .tc .vmem S2x1024x8 .f32 := win0_0.stage ((cfg0 (F := F)).slots t 0)
abbrev hs0_0 (t : Fin (cfg0 (F := F)).N) : (ms0_0 (F := F) t).IsWhole := hstage0_0 (((cfg0 (F := F)).slots t 0).cast nbuf0_0)
abbrev ms0_1 (t : Fin (cfg0 (F := F)).N) : Memref sig .tc .vmem S2x8x1024 .f32 := win0_1.stage ((cfg0 (F := F)).slots t 1)
abbrev hs0_1 (t : Fin (cfg0 (F := F)).N) : (ms0_1 (F := F) t).IsWhole := hstage0_1 (((cfg0 (F := F)).slots t 1).cast nbuf0_1)
abbrev ms0_2 (t : Fin (cfg0 (F := F)).N) : Memref sig .tc .vmem S2x900x900 .f32 := win0_2.stage ((cfg0 (F := F)).slots t 2)
abbrev hs0_2 (t : Fin (cfg0 (F := F)).N) : (ms0_2 (F := F) t).IsWhole := hstage0_2 (((cfg0 (F := F)).slots t 2).cast nbuf0_2)
abbrev ms0_3 (t : Fin (cfg0 (F := F)).N) : Memref sig .tc .vmem S2x900x4 .f32 := win0_3.stage ((cfg0 (F := F)).slots t 3)
abbrev hs0_3 (t : Fin (cfg0 (F := F)).N) : (ms0_3 (F := F) t).IsWhole := hstage0_3 (((cfg0 (F := F)).slots t 3).cast nbuf0_3)
/-- The scratch operands: whole scoped buffers of the kernel's own, passed beside the windows. -/
abbrev scM0_0 : Memref sig .tc .vmem S2x1024x1024 .bf16 := Memref.whole cc0_scratch0
abbrev scM0_1 : Memref sig .tc .vmem S2x1024x1024 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Proof.KI

end
-- ==== Proof.KI.Run.lean ====
/-
  The kernel's body at one point: the seed loop, the repetition, and the two results of each of the point's two batches.
-/
module

public import proofs.«01_k».proof.Proof.KI.While
public import proofs.«01_k».proof.Proof.KI.Setup

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the seed loop ends with: the two carried counts, and the tiles it stored in the planes (last first). -/
def seeded (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) : (F .f32 × F .f32) × List (View.Piece (Elt F) S2x1024x1024 .bf16) :=
  let v0 : Vec F S1x8x1024 .f32 := arg2.view.readAt (Elt F) (Rect.unit (s := S2x8x1024) ![0, 0, 0] S1x8x1024.size inb_S2x8x1024_S1x8x1024_0_0_0).toLoadRect (harg2.unread x1)
  let v25 : Vec F S1x8x1024 .f32 := arg2.view.readAt (Elt F) (Rect.unit (s := S2x8x1024) ![1, 0, 0] S1x8x1024.size inb_S2x8x1024_S1x8x1024_1_0_0).toLoadRect (harg2.unread x1)
  st_k0_t1 (F := F) 𝒱₀ c none i arg1 harg1 arg2 harg2 arg3 harg3 arg4 harg4 arg5 harg5 arg6 harg6
    (k0_pay168 v0) (k0_pay169 v0) (k0_pay170 v0) (k0_pay171 v0) (k0_pay172 v0) (k0_pay174 v25) (k0_pay175 v25) (k0_pay176 v25) (k0_pay177 v25) (k0_pay178 v25) k0_pay179
    (harg1.unread x0) (Scalar.ofBits .f32 0x00000000#32, Scalar.ofBits .f32 0x00000000#32) (Scf.trips k0_t1_loop.lb k0_t1_loop.ub k0_t1_loop.st)

/-- The planes and counts the repetition starts from. -/
def start (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) : SweepState F :=
  ((seeded c i arg1 harg1 arg2 harg2 arg3 harg3 arg4 harg4 arg5 harg5 arg6 harg6 x0 x1).1,
    View.canon (seeded c i arg1 harg1 arg2 harg2 arg3 harg3 arg4 harg4 arg5 harg5 arg6 harg6 x0 x1).2)

set_option backward.proofsInPublic true in
set_option maxHeartbeats 1000000 in
/-- What the body's stores leave in each result's memref, as pieces (last first), with the proof that on whole memrefs,
    the inputs' at their contents and the others' at anything, the body runs to the continuation holding the inputs' as
    they were and each result's with its pieces written. -/
noncomputable def kernelRun (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) :
    Σ' (L2 : List (View.Piece (Elt F) S2x900x900 .f32)), { L3 : List (View.Piece (Elt F) S2x900x4 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ d, owns (c : Thread nD τ) arg5 fullShare d) ∗ (∃ d, owns (c : Thread nD τ) arg6 fullShare d)) -∗ K ⟨⟩))
          ⊢ wp frame (wpE (defs₀ (F := F)) 𝒱₀ c none) E (cc0__body i arg1 harg1 arg2 harg2 arg3 harg3 arg4 harg4 arg5 harg5 arg6 harg6) K } := by
  refine ⟨?_, ?_, fun E K => ?run⟩
  case run =>
    simp only [cc0__body_eq_skeleton]; unfold cc0__body_skel
    simp only [k0_part21_eq_skeleton, k0_part22_eq_skeleton]
    unfold owns
    iintro ⟨⟨%f0, %hf0, H0⟩, ⟨%f1, %hf1, H1⟩, ⟨%d2, %f2, -, H2⟩, ⟨%d3, %f3, -, H3⟩, ⟨%ds0, %fs0, -, HS0⟩, ⟨%ds1, %fs1, -, HS1⟩, Hk⟩
    obtain rfl := harg1.eq_unread hf0; obtain rfl := harg2.eq_unread hf1
    sl_exec
    have hcov := View.cover_of_tiledL (seeded c i arg1 harg1 arg2 harg2 arg3 harg3 arg4 harg4 arg5 harg5 arg6 harg6 x0 x1).2 S1x128x128.size (by sl_kernel_rfl)
    ihave HS0 : iprop(∃ X, (arg5.view.loc (c : Thread nD τ) ↦[arg5.view.set]{fullShare} X) ∗ ⌜arg5.view.read (Elt F) X = (start c i arg1 harg1 arg2 harg2 arg3 harg3 arg4 harg4 arg5 harg5 arg6 harg6 x0 x1).2⌝) $$ [HS0]
    · iexists _; isplitl [HS0]; · iexact HS0
      ipureintro
      exact View.read_writes_eq_canon _ _ (seeded c i arg1 harg1 arg2 harg2 arg3 harg3 arg4 harg4 arg5 harg5 arg6 harg6 x0 x1).2 hcov
    icases HS0 with ⟨%X5, HS0, %hX5⟩
    simp only [Prog.lift, Prog.bind_op, Prog.bind_ret]
    iapply (wp_call_spec 𝒱₀ (c : Thread nD τ) none E (spec c arg5 arg6 900 1#1 1#1 (start c i arg1 harg1 arg2 harg2 arg3 harg3 arg4 harg4 arg5 harg5 arg6 harg6 x0 x1)) 900 (fun u hu => nomatch hu)
      (spec_le c i arg5 harg5 arg6 harg6 E 900 0 rfl 1#1 1#1 (start c i arg1 harg1 arg2 harg2 arg3 harg3 arg4 harg4 arg5 harg5 arg6 harg6 x0 x1)))
    rw [spec_apply]; unfold held owns
    isplitl [HS0 HS1]
    · isplitl [HS0]
      · iexists _; isplitr; · ipureintro; exact hX5
        iexact HS0
      iexists _, _; isplitr; swap; · iexact HS1
      ipureintro; rfl
    iintro %r ⟨⟨%g5, %hg5, HS0⟩, ⟨%d6, %g6, -, HS1⟩⟩
    obtain rfl := harg5.eq_unread hg5
    obtain ⟨r0, r1, r2, r3, r4⟩ := r
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]
    · iexists _, _; isplitr; swap; · iexact HS0
      ipureintro; rfl
    iexists _, _; isplitr; swap; · iexact HS1
    ipureintro; rfl

end Cert.Proof.KI

end
-- ==== Proof.KI.Frame.lean ====
/-
  The frame of the printed kernel, and what each block of its two results holds after the point that wrote it.
-/
module

public import proofs.«01_k».proof.Proof.KI.Run
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's stores in output 2 tile its block, so they cover it. -/
theorem cover0_A_2 (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) (y : S2x900x900.Idx) :
    ∃ pc ∈ (kernelRun c i arg1 harg1 arg2 harg2 arg3 harg3 arg4 harg4 arg5 harg5 arg6 harg6 x0 x1).1, y ∈ pc.1.set :=
  View.cover_of_tiledL (kernelRun c i arg1 harg1 arg2 harg2 arg3 harg3 arg4 harg4 arg5 harg5 arg6 harg6 x0 x1).1 S1x900x900.size (by sl_kernel_rfl) y

/-- What the run leaves in output 2's staging buffer: its pieces read back over junk. -/
def out0_A_2 (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) : Vec F S2x900x900 .f32 :=
  VO0_2.read (Elt F) (VO0_2.writes (Elt F) VO0_2.junk (kernelRun c i arg1 harg1 arg2 harg2 arg3 harg3 arg4 harg4 arg5 harg5 arg6 harg6 x0 x1).1)

/-- The run's stores in output 3 tile its block, so they cover it. -/
theorem cover0_A_3 (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) (y : S2x900x4.Idx) :
    ∃ pc ∈ (kernelRun c i arg1 harg1 arg2 harg2 arg3 harg3 arg4 harg4 arg5 harg5 arg6 harg6 x0 x1).2.1, y ∈ pc.1.set :=
  View.cover_of_tiledL (kernelRun c i arg1 harg1 arg2 harg2 arg3 harg3 arg4 harg4 arg5 harg5 arg6 harg6 x0 x1).2.1 S1x900x4.size (by sl_kernel_rfl) y

/-- What the run leaves in output 3's staging buffer: its pieces read back over junk. -/
def out0_A_3 (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)
    (x0 : Vec F S2x1024x8 .f32) (x1 : Vec F S2x8x1024 .f32) : Vec F S2x900x4 .f32 :=
  VO0_3.read (Elt F) (VO0_3.writes (Elt F) VO0_3.junk (kernelRun c i arg1 harg1 arg2 harg2 arg3 harg3 arg4 harg4 arg5 harg5 arg6 harg6 x0 x1).2.1)

/-! ## What the outputs hold after each point -/

/-- What the outputs' staging buffers hold after the body at point `t` (as a tuple, in window order): the run's contents at
    the point's memrefs and input blocks. -/
def outsAt0 (c : Dev nD) (t : Fin (cfg0 (F := F)).N) : Vec F S2x900x900 .f32 × Vec F S2x900x4 .f32 :=
  (out0_A_2 c (grid0.coords t) (ms0_0 (F := F) t) (hs0_0 (F := F) t) (ms0_1 (F := F) t) (hs0_1 (F := F) t) (ms0_2 (F := F) t) (hs0_2 (F := F) t) (ms0_3 (F := F) t) (hs0_3 (F := F) t) scM0_0 (Memref.isWhole_whole _) scM0_1 (Memref.isWhole_whole _) (iblk m c 0 t) (iblk m c 1 t), out0_A_3 c (grid0.coords t) (ms0_0 (F := F) t) (hs0_0 (F := F) t) (ms0_1 (F := F) t) (hs0_1 (F := F) t) (ms0_2 (F := F) t) (hs0_2 (F := F) t) (ms0_3 (F := F) t) (hs0_3 (F := F) t) scM0_0 (Memref.isWhole_whole _) scM0_1 (Memref.isWhole_whole _) (iblk m c 0 t) (iblk m c 1 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => (outsAt0 m c t).1
    | ⟨3, _⟩ => (outsAt0 m c t).2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin (cfg0 (F := F)).W) : (dats m 0 c).A w = V m c (Pipeline.arrRef spec0 w) := by
  dsimp only [dats]

/-- What the body leaves, window by window (the proof data's `match` reduced by `dsimp`). -/
theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = (outsAt0 m c t).1 := by
  dsimp only [dats]; generalize outsAt0 m c t = o; rfl
theorem after0_3 (c : Dev nD) (t : Fin (cfg0 (F := F)).N) : (dats m 0 c).after 3 t = (outsAt0 m c t).2 := by
  dsimp only [dats]; generalize outsAt0 m c t = o; rfl

/-- Each input's current staging buffer holds its block at every point, fetched there or not (`beforeK_W_of`). -/
theorem before0_0 (c : Dev nD) (t : Fin (cfg0 (F := F)).N) (d) : (dats m 0 c).before 0 t d = iblk m c 0 t :=
  before0_0_of m (dats m 0 c) (A_eq m c 0) (after0_0 m c) t d
theorem before0_1 (c : Dev nD) (t : Fin (cfg0 (F := F)).N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms0_0 (F := F) t) fullShare ((dats m 0 c).before 0 t d))
    ∗ (∃ d, owns (c : Thread nD τ) (ms0_1 (F := F) t) fullShare ((dats m 0 c).before 1 t d))
    ∗ (∃ d, owns (c : Thread nD τ) (ms0_2 (F := F) t) fullShare ((dats m 0 c).before 2 t d))
    ∗ (∃ d, owns (c : Thread nD τ) (ms0_3 (F := F) t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms0_0 (F := F) t) fullShare ((dats m 0 c).after 0 t)
    ∗ owns (c : Thread nD τ) (ms0_1 (F := F) t) fullShare ((dats m 0 c).after 1 t)
    ∗ owns (c : Thread nD τ) (ms0_2 (F := F) t) fullShare ((dats m 0 c).after 2 t)
    ∗ owns (c : Thread nD τ) (ms0_3 (F := F) t) fullShare ((dats m 0 c).after 3 t))

/-- The body at any point: the inputs' memrefs hold their blocks (`before0_W`); so the
    run applies; the invariant hands the body its scratch buffers at some contents (and the generator register) and takes them back at some contents (`PhiA_eq`); the core owes nothing throughout. -/
theorem sound_body (c : Dev nD) (t : Fin (cfg0 (F := F)).N) :
    bodyPre m c t ⊢ wp frame (wpE (defs₀ (F := F)) 𝒱₀ c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  unfold outsAt0
  unfold out0_A_2 out0_A_3; (try dsimp only)
  iintro ⟨⟨⟨HS0, HS1⟩, Hg⟩, Ho, ⟨%d0, H0⟩, ⟨%d1, H1⟩, ⟨%d2, H2⟩, ⟨%d3, H3⟩⟩
  iapply ((kernelRun c (grid0.coords t) _ _ _ _ _ _ _ _ _ _ _ _ (iblk m c 0 t) (iblk m c 1 t)).2.2 Set.univ _)
  isplitl [H0]; · iexact H0
  isplitl [H1]; · iexact H1
  isplitl [H2]; · iexists _; iexact H2
  isplitl [H3]; · iexists _; iexact H3
  isplitl [HS0]; · iexact HS0
  isplitl [HS1]; · iexact HS1
  iintro ⟨H0, H1, ⟨%e2, H2⟩, ⟨%e3, H3⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]
  · unfold owns; iexists _; isplitr
    swap; · iexact H2
    ipureintro; exact View.read_writes_of_cover _ _ _ _ _ (cover0_A_2 c _ _ _ _ _ _ _ _ _ _ _ _ _ _ _)
  unfold owns; iexists _; isplitr
  swap; · iexact H3
  ipureintro; exact View.read_writes_of_cover _ _ _ _ _ (cover0_A_3 c _ _ _ _ _ _ _ _ _ _ _ _ _ _ _)

/-- The body table's row at point `t`'s slots is the body as `bodyAt0` spells it. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

/-! ## The run and the frame -/

set_option backward.isDefEq.respectTransparency.types false in
/-- The run, and every semaphore counter at zero at the end. -/
theorem run_main_quiescent : θ_run defs (onTc (τ := τ) (main (F := F))) (s₀ m ρ) (fun r => (Pipeline.FramePost (cfgs (F := F)) (dats m) 0 (V m)) r ∧ r.2.sem = fun _ => 0) :=
  Pipeline.θ_run_frame (Q' := _) (cfgs (F := F)) (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := A_eq m) (hΦ := fun _ _ => rfl)

/-- The run of the kernel program: every array of the pipeline ends at what the proof data say, every other one as the region found it. -/
theorem run_main : θ_run defs (onTc (τ := τ) (main (F := F))) (s₀ m ρ) (Pipeline.FramePost (cfgs (F := F)) (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.Proof.KI

end
-- ==== Proof.RI.Ops.lean ====
/-
  The reference's run: its operations as lists, how often its loop goes round, and what every buffer holds at the end.
-/
module

public import proofs.«01_k».proof.Proof.Gen.ReferenceIdeal
public import Idealize.ShloMosaic.Lib.StableHlo.RunLoop
public import Idealize.ShloMosaic.Lib.StableHlo.RunClose
public import Idealize.ShloMosaic.Lib.HostLoop
public import Idealize.ShloMosaic.Lib.Quiescent

@[expose] public section

noncomputable section

namespace Cert.Proof.RI

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-! ## The operations -/

/-- The corners of every box. -/
abbrev cornersOps : List (HloOp τ sig (Elt F)) :=
  [ StableHlo.unary main_arg0 main_v0 ((extractStridedSlice S32x900x1 ![0, 0, 0] · slices_S32x900x4_S32x900x1_0_0_0) : (⟨S32x900x4, .f32⟩ : BufTy).Contents (Elt F) → (⟨S32x900x1, .f32⟩ : BufTy).Contents (Elt F)),
    StableHlo.unary main_arg0 main_v1 ((extractStridedSlice S32x900x1 ![0, 0, 1] · slices_S32x900x4_S32x900x1_0_0_1) : (⟨S32x900x4, .f32⟩ : BufTy).Contents (Elt F) → (⟨S32x900x1, .f32⟩ : BufTy).Contents (Elt F)),
    StableHlo.unary main_arg0 main_v2 ((extractStridedSlice S32x900x1 ![0, 0, 2] · slices_S32x900x4_S32x900x1_0_0_2) : (⟨S32x900x4, .f32⟩ : BufTy).Contents (Elt F) → (⟨S32x900x1, .f32⟩ : BufTy).Contents (Elt F)),
    StableHlo.unary main_arg0 main_v3 ((extractStridedSlice S32x900x1 ![0, 0, 3] · slices_S32x900x4_S32x900x1_0_0_3) : (⟨S32x900x4, .f32⟩ : BufTy).Contents (Elt F) → (⟨S32x900x1, .f32⟩ : BufTy).Contents (Elt F)),
    StableHlo.nullary main_cst (constant S_ .f32 0x3F000000#32),
    StableHlo.unary main_cst main_v4 (broadcastInDim S32x900x1 ![] bcast_S_S32x900x1 : (⟨S_, .f32⟩ : BufTy).Contents (Elt F) → (⟨S32x900x1, .f32⟩ : BufTy).Contents (Elt F)),
    StableHlo.binary main_v4 main_v2 main_v5 (mulf : (⟨S32x900x1, .f32⟩ : BufTy).Contents (Elt F) → (⟨S32x900x1, .f32⟩ : BufTy).Contents (Elt F) → (⟨S32x900x1, .f32⟩ : BufTy).Contents (Elt F)),
    StableHlo.binary main_v0 main_v5 main_v6 (subf : (⟨S32x900x1, .f32⟩ : BufTy).Contents (Elt F) → (⟨S32x900x1, .f32⟩ : BufTy).Contents (Elt F) → (⟨S32x900x1, .f32⟩ : BufTy).Contents (Elt F)),
    StableHlo.nullary main_cst_0 (constant S_ .f32 0x3F000000#32),
    StableHlo.unary main_cst_0 main_v7 (broadcastInDim S32x900x1 ![] bcast_S_S32x900x1 : (⟨S_, .f32⟩ : BufTy).Contents (Elt F) → (⟨S32x900x1, .f32⟩ : BufTy).Contents (Elt F)),
    StableHlo.binary main_v7 main_v3 main_v8 (mulf : (⟨S32x900x1, .f32⟩ : BufTy).Contents (Elt F) → (⟨S32x900x1, .f32⟩ : BufTy).Contents (Elt F) → (⟨S32x900x1, .f32⟩ : BufTy).Contents (Elt F)),
    StableHlo.binary main_v1 main_v8 main_v9 (subf : (⟨S32x900x1, .f32⟩ : BufTy).Contents (Elt F) → (⟨S32x900x1, .f32⟩ : BufTy).Contents (Elt F) → (⟨S32x900x1, .f32⟩ : BufTy).Contents (Elt F)),
    StableHlo.nullary main_cst_1 (constant S_ .f32 0x3F000000#32),
    StableHlo.unary main_cst_1 main_v10 (broadcastInDim S32x900x1 ![] bcast_S_S32x900x1 : (⟨S_, .f32⟩ : BufTy).Contents (Elt F) → (⟨S32x900x1, .f32⟩ : BufTy).Contents (Elt F)),
    StableHlo.binary main_v10 main_v2 main_v11 (mulf : (⟨S32x900x1, .f32⟩ : BufTy).Contents (Elt F) → (⟨S32x900x1, .f32⟩ : BufTy).Contents (Elt F) → (⟨S32x900x1, .f32⟩ : BufTy).Contents (Elt F)),
    StableHlo.binary main_v0 main_v11 main_v12 (addf : (⟨S32x900x1, .f32⟩ : BufTy).Contents (Elt F) → (⟨S32x900x1, .f32⟩ : BufTy).Contents (Elt F) → (⟨S32x900x1, .f32⟩ : BufTy).Contents (Elt F)),
    StableHlo.nullary main_cst_2 (constant S_ .f32 0x3F000000#32),
    StableHlo.unary main_cst_2 main_v13 (broadcastInDim S32x900x1 ![] bcast_S_S32x900x1 : (⟨S_, .f32⟩ : BufTy).Contents (Elt F) → (⟨S32x900x1, .f32⟩ : BufTy).Contents (Elt F)),
    StableHlo.binary main_v13 main_v3 main_v14 (mulf : (⟨S32x900x1, .f32⟩ : BufTy).Contents (Elt F) → (⟨S32x900x1, .f32⟩ : BufTy).Contents (Elt F) → (⟨S32x900x1, .f32⟩ : BufTy).Contents (Elt F)),
    StableHlo.binary main_v1 main_v14 main_v15 (addf : (⟨S32x900x1, .f32⟩ : BufTy).Contents (Elt F) → (⟨S32x900x1, .f32⟩ : BufTy).Contents (Elt F) → (⟨S32x900x1, .f32⟩ : BufTy).Contents (Elt F)),
    StableHlo.nary ![main_v6, main_v9, main_v12, main_v15] main_v16 (fun u => (concatenate S32x900x4 2 [⟨S32x900x1, (u 0 : (⟨S32x900x1, .f32⟩ : BufTy).Contents (Elt F))⟩, ⟨S32x900x1, (u 1 : (⟨S32x900x1, .f32⟩ : BufTy).Contents (Elt F))⟩, ⟨S32x900x1, (u 2 : (⟨S32x900x1, .f32⟩ : BufTy).Contents (Elt F))⟩, ⟨S32x900x1, (u 3 : (⟨S32x900x1, .f32⟩ : BufTy).Contents (Elt F))⟩] concatenates_S32x900x1_S32x900x1_S32x900x1_S32x900x1_S32x900x4_d2 : (⟨S32x900x4, .f32⟩ : BufTy).Contents (Elt F))) ]
/-- Each touches TensorCore references only. -/
theorem cornersOps_sub : (cornersOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nary_bufs_sub ..⟩

/-- The area of every box. -/
abbrev areaOps : List (HloOp τ sig (Elt F)) :=
  [ StableHlo.unary main_v16 main_v17 ((extractStridedSlice S32x900x1 ![0, 0, 2] · slices_S32x900x4_S32x900x1_0_0_2) : (⟨S32x900x4, .f32⟩ : BufTy).Contents (Elt F) → (⟨S32x900x1, .f32⟩ : BufTy).Contents (Elt F)),
    StableHlo.reshape main_v17 main_v18 (rfl : (.f32 : EltTy) = .f32) shapeCasts_S32x900x1_S32x900,
    StableHlo.unary main_v16 main_v19 ((extractStridedSlice S32x900x1 ![0, 0, 0] · slices_S32x900x4_S32x900x1_0_0_0) : (⟨S32x900x4, .f32⟩ : BufTy).Contents (Elt F) → (⟨S32x900x1, .f32⟩ : BufTy).Contents (Elt F)),
    StableHlo.reshape main_v19 main_v20 (rfl : (.f32 : EltTy) = .f32) shapeCasts_S32x900x1_S32x900,
    StableHlo.binary main_v18 main_v20 main_v21 (subf : (⟨S32x900, .f32⟩ : BufTy).Contents (Elt F) → (⟨S32x900, .f32⟩ : BufTy).Contents (Elt F) → (⟨S32x900, .f32⟩ : BufTy).Contents (Elt F)),
    StableHlo.unary main_v16 main_v22 ((extractStridedSlice S32x900x1 ![0, 0, 3] · slices_S32x900x4_S32x900x1_0_0_3) : (⟨S32x900x4, .f32⟩ : BufTy).Contents (Elt F) → (⟨S32x900x1, .f32⟩ : BufTy).Contents (Elt F)),
    StableHlo.reshape main_v22 main_v23 (rfl : (.f32 : EltTy) = .f32) shapeCasts_S32x900x1_S32x900,
    StableHlo.unary main_v16 main_v24 ((extractStridedSlice S32x900x1 ![0, 0, 1] · slices_S32x900x4_S32x900x1_0_0_1) : (⟨S32x900x4, .f32⟩ : BufTy).Contents (Elt F) → (⟨S32x900x1, .f32⟩ : BufTy).Contents (Elt F)),
    StableHlo.reshape main_v24 main_v25 (rfl : (.f32 : EltTy) = .f32) shapeCasts_S32x900x1_S32x900,
    StableHlo.binary main_v23 main_v25 main_v26 (subf : (⟨S32x900, .f32⟩ : BufTy).Contents (Elt F) → (⟨S32x900, .f32⟩ : BufTy).Contents (Elt F) → (⟨S32x900, .f32⟩ : BufTy).Contents (Elt F)),
    StableHlo.binary main_v21 main_v26 main_v27 (mulf : (⟨S32x900, .f32⟩ : BufTy).Contents (Elt F) → (⟨S32x900, .f32⟩ : BufTy).Contents (Elt F) → (⟨S32x900, .f32⟩ : BufTy).Contents (Elt F)) ]
/-- Each touches TensorCore references only. -/
theorem areaOps_sub : (areaOps : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub ..⟩

/-- The extents of the overlap of every two boxes, before they are cut at 0. -/
abbrev overlapOps : List (HloOp τ sig (Elt F)) :=
  [ StableHlo.unary main_v16 main_v28 ((extractStridedSlice S32x900x2 ![0, 0, 0] · slices_S32x900x4_S32x900x2_0_0_0) : (⟨S32x900x4, .f32⟩ : BufTy).Contents (Elt F) → (⟨S32x900x2, .f32⟩ : BufTy).Contents (Elt F)),
    StableHlo.unary main_v28 main_v29 (broadcastInDim S32x900x1x2 ![0, 1, 3] bcast_S32x900x2_S32x900x1x2_0_1_3 : (⟨S32x900x2, .f32⟩ : BufTy).Contents (Elt F) → (⟨S32x900x1x2, .f32⟩ : BufTy).Contents (Elt F)),
    StableHlo.unary main_v16 main_v30 ((extractStridedSlice S32x900x2 ![0, 0, 0] · slices_S32x900x4_S32x900x2_0_0_0) : (⟨S32x900x4, .f32⟩ : BufTy).Contents (Elt F) → (⟨S32x900x2, .f32⟩ : BufTy).Contents (Elt F)),
    StableHlo.unary main_v30 main_v31 (broadcastInDim S32x1x900x2 ![0, 2, 3] bcast_S32x900x2_S32x1x900x2_0_2_3 : (⟨S32x900x2, .f32⟩ : BufTy).Contents (Elt F) → (⟨S32x1x900x2, .f32⟩ : BufTy).Contents (Elt F)),
    StableHlo.unary main_v29 main_v32 (broadcastInDim S32x900x900x2 ![0, 1, 2, 3] bcast_S32x900x1x2_S32x900x900x2_0_1_2_3 : (⟨S32x900x1x2, .f32⟩ : BufTy).Contents (Elt F) → (⟨S32x900x900x2, .f32⟩ : BufTy).Contents (Elt F)),
    StableHlo.unary main_v31 main_v33 (broadcastInDim S32x900x900x2 ![0, 1, 2, 3] bcast_S32x1x900x2_S32x900x900x2_0_1_2_3 : (⟨S32x1x900x2, .f32⟩ : BufTy).Contents (Elt F) → (⟨S32x900x900x2, .f32⟩ : BufTy).Contents (Elt F)),
    StableHlo.binary main_v32 main_v33 main_v34 (maximumf : (⟨S32x900x900x2, .f32⟩ : BufTy).Contents (Elt F) → (⟨S32x900x900x2, .f32⟩ : BufTy).Contents (Elt F) → (⟨S32x900x900x2, .f32⟩ : BufTy).Contents (Elt F)),
    StableHlo.unary main_v16 main_v35 ((extractStridedSlice S32x900x2 ![0, 0, 2] · slices_S32x900x4_S32x900x2_0_0_2) : (⟨S32x900x4, .f32⟩ : BufTy).Contents (Elt F) → (⟨S32x900x2, .f32⟩ : BufTy).Contents (Elt F)),
    StableHlo.unary main_v35 main_v36 (broadcastInDim S32x900x1x2 ![0, 1, 3] bcast_S32x900x2_S32x900x1x2_0_1_3 : (⟨S32x900x2, .f32⟩ : BufTy).Contents (Elt F) → (⟨S32x900x1x2, .f32⟩ : BufTy).Contents (Elt F)),
    StableHlo.unary main_v16 main_v37 ((extractStridedSlice S32x900x2 ![0, 0, 2] · slices_S32x900x4_S32x900x2_0_0_2) : (⟨S32x900x4, .f32⟩ : BufTy).Contents (Elt F) → (⟨S32x900x2, .f32⟩ : BufTy).Contents (Elt F)),
    StableHlo.unary main_v37 main_v38 (broadcastInDim S32x1x900x2 ![0, 2, 3] bcast_S32x900x2_S32x1x900x2_0_2_3 : (⟨S32x900x2, .f32⟩ : BufTy).Contents (Elt F) → (⟨S32x1x900x2, .f32⟩ : BufTy).Contents (Elt F)),
    StableHlo.unary main_v36 main_v39 (broadcastInDim S32x900x900x2 ![0, 1, 2, 3] bcast_S32x900x1x2_S32x900x900x2_0_1_2_3 : (⟨S32x900x1x2, .f32⟩ : BufTy).Contents (Elt F) → (⟨S32x900x900x2, .f32⟩ : BufTy).Contents (Elt F)),
    StableHlo.unary main_v38 main_v40 (broadcastInDim S32x900x900x2 ![0, 1, 2, 3] bcast_S32x1x900x2_S32x900x900x2_0_1_2_3 : (⟨S32x1x900x2, .f32⟩ : BufTy).Contents (Elt F) → (⟨S32x900x900x2, .f32⟩ : BufTy).Contents (Elt F)),
    StableHlo.binary main_v39 main_v40 main_v41 (minimumf : (⟨S32x900x900x2, .f32⟩ : BufTy).Contents (Elt F) → (⟨S32x900x900x2, .f32⟩ : BufTy).Contents (Elt F) → (⟨S32x900x900x2, .f32⟩ : BufTy).Contents (Elt F)),
    StableHlo.binary main_v41 main_v34 main_v42 (subf : (⟨S32x900x900x2, .f32⟩ : BufTy).Contents (Elt F) → (⟨S32x900x900x2, .f32⟩ : BufTy).Contents (Elt F) → (⟨S32x900x900x2, .f32⟩ : BufTy).Contents (Elt F)) ]
/-- Each touches TensorCore references only. -/
theorem overlapOps_sub : (overlapOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub ..⟩

/-- The overlap cut at 0, and the union. -/
abbrev unionOps : List (HloOp τ sig (Elt F)) :=
  [ StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S32x900x900x2, .f32⟩) (broadcastInDim S32x900x900x2 ![] bcast_S_S32x900x900x2),
    StableHlo.TRef.binary (.of main_call0_v1 : StableHlo.TRef sig ⟨S32x900x900x2, .f32⟩) (.of main_v42 : StableHlo.TRef sig ⟨S32x900x900x2, .f32⟩) (.of main_v43 : StableHlo.TRef sig ⟨S32x900x900x2, .f32⟩) maximumf,
    StableHlo.unary main_v43 main_v44 ((extractStridedSlice S32x900x900x1 ![0, 0, 0, 0] · slices_S32x900x900x2_S32x900x900x1_0_0_0_0) : (⟨S32x900x900x2, .f32⟩ : BufTy).Contents (Elt F) → (⟨S32x900x900x1, .f32⟩ : BufTy).Contents (Elt F)),
    StableHlo.reshape main_v44 main_v45 (rfl : (.f32 : EltTy) = .f32) shapeCasts_S32x900x900x1_S32x900x900,
    StableHlo.unary main_v43 main_v46 ((extractStridedSlice S32x900x900x1 ![0, 0, 0, 1] · slices_S32x900x900x2_S32x900x900x1_0_0_0_1) : (⟨S32x900x900x2, .f32⟩ : BufTy).Contents (Elt F) → (⟨S32x900x900x1, .f32⟩ : BufTy).Contents (Elt F)),
    StableHlo.reshape main_v46 main_v47 (rfl : (.f32 : EltTy) = .f32) shapeCasts_S32x900x900x1_S32x900x900,
    StableHlo.binary main_v45 main_v47 main_v48 (mulf : (⟨S32x900x900, .f32⟩ : BufTy).Contents (Elt F) → (⟨S32x900x900, .f32⟩ : BufTy).Contents (Elt F) → (⟨S32x900x900, .f32⟩ : BufTy).Contents (Elt F)),
    StableHlo.unary main_v27 main_v49 (broadcastInDim S32x900x1 ![0, 1] bcast_S32x900_S32x900x1_0_1 : (⟨S32x900, .f32⟩ : BufTy).Contents (Elt F) → (⟨S32x900x1, .f32⟩ : BufTy).Contents (Elt F)),
    StableHlo.unary main_v27 main_v50 (broadcastInDim S32x1x900 ![0, 2] bcast_S32x900_S32x1x900_0_2 : (⟨S32x900, .f32⟩ : BufTy).Contents (Elt F) → (⟨S32x1x900, .f32⟩ : BufTy).Contents (Elt F)),
    StableHlo.unary main_v49 main_v51 (broadcastInDim S32x900x900 ![0, 1, 2] bcast_S32x900x1_S32x900x900_0_1_2 : (⟨S32x900x1, .f32⟩ : BufTy).Contents (Elt F) → (⟨S32x900x900, .f32⟩ : BufTy).Contents (Elt F)),
    StableHlo.unary main_v50 main_v52 (broadcastInDim S32x900x900 ![0, 1, 2] bcast_S32x1x900_S32x900x900_0_1_2 : (⟨S32x1x900, .f32⟩ : BufTy).Contents (Elt F) → (⟨S32x900x900, .f32⟩ : BufTy).Contents (Elt F)),
    StableHlo.binary main_v51 main_v52 main_v53 (addf : (⟨S32x900x900, .f32⟩ : BufTy).Contents (Elt F) → (⟨S32x900x900, .f32⟩ : BufTy).Contents (Elt F) → (⟨S32x900x900, .f32⟩ : BufTy).Contents (Elt F)),
    StableHlo.binary main_v53 main_v48 main_v54 (subf : (⟨S32x900x900, .f32⟩ : BufTy).Contents (Elt F) → (⟨S32x900x900, .f32⟩ : BufTy).Contents (Elt F) → (⟨S32x900x900, .f32⟩ : BufTy).Contents (Elt F)) ]
/-- Each touches TensorCore references only. -/
theorem unionOps_sub : (unionOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.unary_bufs_sub .., StableHlo.unary_bufs_sub .., StableHlo.unary_bufs_sub .., StableHlo.unary_bufs_sub .., StableHlo.binary_bufs_sub .., StableHlo.binary_bufs_sub ..⟩

/-- The ratio of overlap to union, and the extents of the hull of every two boxes, before they are cut at 0. -/
abbrev hullOps : List (HloOp τ sig (Elt F)) :=
  [ StableHlo.binary main_v48 main_v54 main_v55 (Host.divf : (⟨S32x900x900, .f32⟩ : BufTy).Contents (Elt F) → (⟨S32x900x900, .f32⟩ : BufTy).Contents (Elt F) → (⟨S32x900x900, .f32⟩ : BufTy).Contents (Elt F)),
    StableHlo.unary main_v16 main_v56 ((extractStridedSlice S32x900x2 ![0, 0, 0] · slices_S32x900x4_S32x900x2_0_0_0) : (⟨S32x900x4, .f32⟩ : BufTy).Contents (Elt F) → (⟨S32x900x2, .f32⟩ : BufTy).Contents (Elt F)),
    StableHlo.unary main_v56 main_v57 (broadcastInDim S32x900x1x2 ![0, 1, 3] bcast_S32x900x2_S32x900x1x2_0_1_3 : (⟨S32x900x2, .f32⟩ : BufTy).Contents (Elt F) → (⟨S32x900x1x2, .f32⟩ : BufTy).Contents (Elt F)),
    StableHlo.unary main_v16 main_v58 ((extractStridedSlice S32x900x2 ![0, 0, 0] · slices_S32x900x4_S32x900x2_0_0_0) : (⟨S32x900x4, .f32⟩ : BufTy).Contents (Elt F) → (⟨S32x900x2, .f32⟩ : BufTy).Contents (Elt F)),
    StableHlo.unary main_v58 main_v59 (broadcastInDim S32x1x900x2 ![0, 2, 3] bcast_S32x900x2_S32x1x900x2_0_2_3 : (⟨S32x900x2, .f32⟩ : BufTy).Contents (Elt F) → (⟨S32x1x900x2, .f32⟩ : BufTy).Contents (Elt F)),
    StableHlo.unary main_v57 main_v60 (broadcastInDim S32x900x900x2 ![0, 1, 2, 3] bcast_S32x900x1x2_S32x900x900x2_0_1_2_3 : (⟨S32x900x1x2, .f32⟩ : BufTy).Contents (Elt F) → (⟨S32x900x900x2, .f32⟩ : BufTy).Contents (Elt F)),
    StableHlo.unary main_v59 main_v61 (broadcastInDim S32x900x900x2 ![0, 1, 2, 3] bcast_S32x1x900x2_S32x900x900x2_0_1_2_3 : (⟨S32x1x900x2, .f32⟩ : BufTy).Contents (Elt F) → (⟨S32x900x900x2, .f32⟩ : BufTy).Contents (Elt F)),
    StableHlo.binary main_v60 main_v61 main_v62 (minimumf : (⟨S32x900x900x2, .f32⟩ : BufTy).Contents (Elt F) → (⟨S32x900x900x2, .f32⟩ : BufTy).Contents (Elt F) → (⟨S32x900x900x2, .f32⟩ : BufTy).Contents (Elt F)),
    StableHlo.unary main_v16 main_v63 ((extractStridedSlice S32x900x2 ![0, 0, 2] · slices_S32x900x4_S32x900x2_0_0_2) : (⟨S32x900x4, .f32⟩ : BufTy).Contents (Elt F) → (⟨S32x900x2, .f32⟩ : BufTy).Contents (Elt F)),
    StableHlo.unary main_v63 main_v64 (broadcastInDim S32x900x1x2 ![0, 1, 3] bcast_S32x900x2_S32x900x1x2_0_1_3 : (⟨S32x900x2, .f32⟩ : BufTy).Contents (Elt F) → (⟨S32x900x1x2, .f32⟩ : BufTy).Contents (Elt F)),
    StableHlo.unary main_v16 main_v65 ((extractStridedSlice S32x900x2 ![0, 0, 2] · slices_S32x900x4_S32x900x2_0_0_2) : (⟨S32x900x4, .f32⟩ : BufTy).Contents (Elt F) → (⟨S32x900x2, .f32⟩ : BufTy).Contents (Elt F)),
    StableHlo.unary main_v65 main_v66 (broadcastInDim S32x1x900x2 ![0, 2, 3] bcast_S32x900x2_S32x1x900x2_0_2_3 : (⟨S32x900x2, .f32⟩ : BufTy).Contents (Elt F) → (⟨S32x1x900x2, .f32⟩ : BufTy).Contents (Elt F)),
    StableHlo.unary main_v64 main_v67 (broadcastInDim S32x900x900x2 ![0, 1, 2, 3] bcast_S32x900x1x2_S32x900x900x2_0_1_2_3 : (⟨S32x900x1x2, .f32⟩ : BufTy).Contents (Elt F) → (⟨S32x900x900x2, .f32⟩ : BufTy).Contents (Elt F)),
    StableHlo.unary main_v66 main_v68 (broadcastInDim S32x900x900x2 ![0, 1, 2, 3] bcast_S32x1x900x2_S32x900x900x2_0_1_2_3 : (⟨S32x1x900x2, .f32⟩ : BufTy).Contents (Elt F) → (⟨S32x900x900x2, .f32⟩ : BufTy).Contents (Elt F)),
    StableHlo.binary main_v67 main_v68 main_v69 (maximumf : (⟨S32x900x900x2, .f32⟩ : BufTy).Contents (Elt F) → (⟨S32x900x900x2, .f32⟩ : BufTy).Contents (Elt F) → (⟨S32x900x900x2, .f32⟩ : BufTy).Contents (Elt F)),
    StableHlo.binary main_v69 main_v62 main_v70 (subf : (⟨S32x900x900x2, .f32⟩ : BufTy).Contents (Elt F) → (⟨S32x900x900x2, .f32⟩ : BufTy).Contents (Elt F) → (⟨S32x900x900x2, .f32⟩ : BufTy).Contents (Elt F)) ]
/-- Each touches TensorCore references only. -/
theorem hullOps_sub : (hullOps : List (HloOp τ sig (Elt F))).Forall fun op => op.bufs ⊆ StableHlo.tcRefs τ sig :=
  ⟨StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub ..⟩

/-- The generalized ratio. -/
abbrev giouOps : List (HloOp τ sig (Elt F)) :=
  [ StableHlo.nullary main_cst_4 (constant S_ .f32 0x00000000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S32x900x900x2, .f32⟩) (broadcastInDim S32x900x900x2 ![] bcast_S_S32x900x900x2),
    StableHlo.TRef.binary (.of main_call1_v1 : StableHlo.TRef sig ⟨S32x900x900x2, .f32⟩) (.of main_v70 : StableHlo.TRef sig ⟨S32x900x900x2, .f32⟩) (.of main_v71 : StableHlo.TRef sig ⟨S32x900x900x2, .f32⟩) maximumf,
    StableHlo.unary main_v71 main_v72 ((extractStridedSlice S32x900x900x1 ![0, 0, 0, 0] · slices_S32x900x900x2_S32x900x900x1_0_0_0_0) : (⟨S32x900x900x2, .f32⟩ : BufTy).Contents (Elt F) → (⟨S32x900x900x1, .f32⟩ : BufTy).Contents (Elt F)),
    StableHlo.reshape main_v72 main_v73 (rfl : (.f32 : EltTy) = .f32) shapeCasts_S32x900x900x1_S32x900x900,
    StableHlo.unary main_v71 main_v74 ((extractStridedSlice S32x900x900x1 ![0, 0, 0, 1] · slices_S32x900x900x2_S32x900x900x1_0_0_0_1) : (⟨S32x900x900x2, .f32⟩ : BufTy).Contents (Elt F) → (⟨S32x900x900x1, .f32⟩ : BufTy).Contents (Elt F)),
    StableHlo.reshape main_v74 main_v75 (rfl : (.f32 : EltTy) = .f32) shapeCasts_S32x900x900x1_S32x900x900,
    StableHlo.binary main_v73 main_v75 main_v76 (mulf : (⟨S32x900x900, .f32⟩ : BufTy).Contents (Elt F) → (⟨S32x900x900, .f32⟩ : BufTy).Contents (Elt F) → (⟨S32x900x900, .f32⟩ : BufTy).Contents (Elt F)),
    StableHlo.binary main_v76 main_v54 main_v77 (subf : (⟨S32x900x900, .f32⟩ : BufTy).Contents (Elt F) → (⟨S32x900x900, .f32⟩ : BufTy).Contents (Elt F) → (⟨S32x900x900, .f32⟩ : BufTy).Contents (Elt F)),
    StableHlo.binary main_v77 main_v76 main_v78 (Host.divf : (⟨S32x900x900, .f32⟩ : BufTy).Contents (Elt F) → (⟨S32x900x900, .f32⟩ : BufTy).Contents (Elt F) → (⟨S32x900x900, .f32⟩ : BufTy).Contents (Elt F)),
    StableHlo.binary main_v55 main_v78 main_v79 (subf : (⟨S32x900x900, .f32⟩ : BufTy).Contents (Elt F) → (⟨S32x900x900, .f32⟩ : BufTy).Contents (Elt F) → (⟨S32x900x900, .f32⟩ : BufTy).Contents (Elt F)) ]
/-- Each touches TensorCore references only. -/
theorem giouOps_sub : (giouOps : List (HloOp τ sig (Elt F))).Forall fun op => op.bufs ⊆ StableHlo.tcRefs τ sig :=
  ⟨StableHlo.nullary_bufs_sub .., StableHlo.unary_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.binary_bufs_sub .., StableHlo.binary_bufs_sub ..⟩

/-- The test against 0.9 made symmetric, and the loop's first values. -/
abbrev maskOps : List (HloOp τ sig (Elt F)) :=
  [ StableHlo.nullary main_cst_5 (constant S_ .f32 0x3F666666#32),
    StableHlo.unary main_cst_5 main_v80 (broadcastInDim S32x900x900 ![] bcast_S_S32x900x900 : (⟨S_, .f32⟩ : BufTy).Contents (Elt F) → (⟨S32x900x900, .f32⟩ : BufTy).Contents (Elt F)),
    StableHlo.binary main_v79 main_v80 main_v81 (cmpf .ogt : (⟨S32x900x900, .f32⟩ : BufTy).Contents (Elt F) → (⟨S32x900x900, .f32⟩ : BufTy).Contents (Elt F) → (⟨S32x900x900, .i1⟩ : BufTy).Contents (Elt F)),
    StableHlo.unary main_v81 main_v82 ((transpose S32x900x900 [0, 2, 1] · transposes_S32x900x900_S32x900x900_0_2_1) : (⟨S32x900x900, .i1⟩ : BufTy).Contents (Elt F) → (⟨S32x900x900, .i1⟩ : BufTy).Contents (Elt F)),
    StableHlo.binary main_v81 main_v82 main_v83 (ori : (⟨S32x900x900, .i1⟩ : BufTy).Contents (Elt F) → (⟨S32x900x900, .i1⟩ : BufTy).Contents (Elt F) → (⟨S32x900x900, .i1⟩ : BufTy).Contents (Elt F)),
    StableHlo.unary main_v83 main_v84 (uitofp .f32 : (⟨S32x900x900, .i1⟩ : BufTy).Contents (Elt F) → (⟨S32x900x900, .f32⟩ : BufTy).Contents (Elt F)),
    StableHlo.nullary main_c (constantI S_ 32 0#32),
    StableHlo.nullary main_c_6 (constantI S_ 1 1#1),
    StableHlo.unary main_c main_v85_0 id,
    StableHlo.unary main_v84 main_v85_1 id,
    StableHlo.unary main_c_6 main_v85_2 id ]
/-- Each touches TensorCore references only. -/
theorem maskOps_sub : (maskOps : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub .., StableHlo.binary_bufs_sub .., StableHlo.unary_bufs_sub .., StableHlo.nullary_bufs_sub .., StableHlo.nullary_bufs_sub .., StableHlo.unary_bufs_sub .., StableHlo.unary_bufs_sub .., StableHlo.unary_bufs_sub ..⟩

/-- The loop's condition. -/
abbrev condOps : List (HloOp τ sig (Elt F)) :=
  [ StableHlo.nullary main_while0c_c_11 (constantI S_ 32 900#32),
    StableHlo.binary main_v85_0 main_while0c_c_11 main_while0c_v93 (cmpi .slt : (⟨S_, .i32⟩ : BufTy).Contents (Elt F) → (⟨S_, .i32⟩ : BufTy).Contents (Elt F) → (⟨S_, .i1⟩ : BufTy).Contents (Elt F)),
    StableHlo.binary main_while0c_v93 main_v85_2 main_while0c_v94 (andi : (⟨S_, .i1⟩ : BufTy).Contents (Elt F) → (⟨S_, .i1⟩ : BufTy).Contents (Elt F) → (⟨S_, .i1⟩ : BufTy).Contents (Elt F)) ]
/-- Each touches TensorCore references only. -/
theorem condOps_sub : (condOps : List (HloOp τ sig (Elt F))).Forall fun op => op.bufs ⊆ StableHlo.tcRefs τ sig :=
  ⟨StableHlo.nullary_bufs_sub .., StableHlo.binary_bufs_sub .., StableHlo.binary_bufs_sub ..⟩

/-- The loop's body. -/
abbrev bodyOps : List (HloOp τ sig (Elt F)) :=
  [ StableHlo.binary main_v85_1 main_v85_1 main_while0b_v93 ((fun l r => Host.dotGeneral dot_S32x900x900_S32x900x900_S32x900x900_2_1_1_2_0_0 none l r) : (⟨S32x900x900, .f32⟩ : BufTy).Contents (Elt F) → (⟨S32x900x900, .f32⟩ : BufTy).Contents (Elt F) → (⟨S32x900x900, .f32⟩ : BufTy).Contents (Elt F)),
    StableHlo.binary main_v85_1 main_while0b_v93 main_while0b_v94 (addf : (⟨S32x900x900, .f32⟩ : BufTy).Contents (Elt F) → (⟨S32x900x900, .f32⟩ : BufTy).Contents (Elt F) → (⟨S32x900x900, .f32⟩ : BufTy).Contents (Elt F)),
    StableHlo.nullary main_while0b_cst_11 (constant S_ .f32 0x358637BD#32),
    StableHlo.unary main_while0b_cst_11 main_while0b_v95 (broadcastInDim S32x900x900 ![] bcast_S_S32x900x900 : (⟨S_, .f32⟩ : BufTy).Contents (Elt F) → (⟨S32x900x900, .f32⟩ : BufTy).Contents (Elt F)),
    StableHlo.binary main_while0b_v94 main_while0b_v95 main_while0b_v96 (cmpf .ogt : (⟨S32x900x900, .f32⟩ : BufTy).Contents (Elt F) → (⟨S32x900x900, .f32⟩ : BufTy).Contents (Elt F) → (⟨S32x900x900, .i1⟩ : BufTy).Contents (Elt F)),
    StableHlo.unary main_while0b_v96 main_while0b_v97 (uitofp .f32 : (⟨S32x900x900, .i1⟩ : BufTy).Contents (Elt F) → (⟨S32x900x900, .f32⟩ : BufTy).Contents (Elt F)),
    StableHlo.nullary main_while0b_c_12 (constantI S_ 32 1#32),
    StableHlo.binary main_v85_0 main_while0b_c_12 main_while0b_v98 (addi : (⟨S_, .i32⟩ : BufTy).Contents (Elt F) → (⟨S_, .i32⟩ : BufTy).Contents (Elt F) → (⟨S_, .i32⟩ : BufTy).Contents (Elt F)),
    StableHlo.binary main_while0b_v97 main_v85_1 main_while0b_v99 (cmpf .une : (⟨S32x900x900, .f32⟩ : BufTy).Contents (Elt F) → (⟨S32x900x900, .f32⟩ : BufTy).Contents (Elt F) → (⟨S32x900x900, .i1⟩ : BufTy).Contents (Elt F)),
    StableHlo.nullary main_while0b_c_13 (constantI S_ 1 0#1),
    StableHlo.binary main_while0b_v99 main_while0b_c_13 main_while0b_v100 ((fun x v => Host.reduce IntOp.ori x v reducesTo_S32x900x900_S_d0_1_2 h_S_) : (⟨S32x900x900, .i1⟩ : BufTy).Contents (Elt F) → (⟨S_, .i1⟩ : BufTy).Contents (Elt F) → (⟨S_, .i1⟩ : BufTy).Contents (Elt F)),
    StableHlo.unary main_while0b_v98 main_v85_0 id,
    StableHlo.unary main_while0b_v97 main_v85_1 id,
    StableHlo.unary main_while0b_v100 main_v85_2 id ]
/-- Each touches TensorCore references only. -/
theorem bodyOps_sub : (bodyOps : List (HloOp τ sig (Elt F))).Forall fun op => op.bufs ⊆ StableHlo.tcRefs τ sig :=
  ⟨StableHlo.binary_bufs_sub .., StableHlo.binary_bufs_sub .., StableHlo.nullary_bufs_sub .., StableHlo.unary_bufs_sub .., StableHlo.binary_bufs_sub .., StableHlo.unary_bufs_sub .., StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩

/-- After the loop: the row sums, the product with the boxes and their quotient. -/
abbrev postOps : List (HloOp τ sig (Elt F)) :=
  [ StableHlo.nullary main_cst_7 (constant S_ .f32 0x00000000#32),
    StableHlo.binary main_v85_1 main_cst_7 main_v86 ((fun x v => Host.reduceAdd x v reducesTo_S32x900x900_S32x900_d2 h_S_) : (⟨S32x900x900, .f32⟩ : BufTy).Contents (Elt F) → (⟨S_, .f32⟩ : BufTy).Contents (Elt F) → (⟨S32x900, .f32⟩ : BufTy).Contents (Elt F)),
    StableHlo.unary main_v86 main_v87 (broadcastInDim S32x900x1 ![0, 1] bcast_S32x900_S32x900x1_0_1 : (⟨S32x900, .f32⟩ : BufTy).Contents (Elt F) → (⟨S32x900x1, .f32⟩ : BufTy).Contents (Elt F)),
    StableHlo.nullary main_cst_8 (constant S_ .f32 0x358637BD#32),
    StableHlo.unary main_cst_8 main_v88 (broadcastInDim S32x900x1 ![] bcast_S_S32x900x1 : (⟨S_, .f32⟩ : BufTy).Contents (Elt F) → (⟨S32x900x1, .f32⟩ : BufTy).Contents (Elt F)),
    StableHlo.binary main_v87 main_v88 main_v89 (addf : (⟨S32x900x1, .f32⟩ : BufTy).Contents (Elt F) → (⟨S32x900x1, .f32⟩ : BufTy).Contents (Elt F) → (⟨S32x900x1, .f32⟩ : BufTy).Contents (Elt F)),
    StableHlo.binary main_v85_1 main_arg0 main_v90 ((fun l r => Host.dotGeneral dot_S32x900x900_S32x900x4_S32x900x4_2_1_1_2_0_0 none l r) : (⟨S32x900x900, .f32⟩ : BufTy).Contents (Elt F) → (⟨S32x900x4, .f32⟩ : BufTy).Contents (Elt F) → (⟨S32x900x4, .f32⟩ : BufTy).Contents (Elt F)),
    StableHlo.unary main_v89 main_v91 (broadcastInDim S32x900x4 ![0, 1, 2] bcast_S32x900x1_S32x900x4_0_1_2 : (⟨S32x900x1, .f32⟩ : BufTy).Contents (Elt F) → (⟨S32x900x4, .f32⟩ : BufTy).Contents (Elt F)),
    StableHlo.binary main_v90 main_v91 main_v92 (Host.divf : (⟨S32x900x4, .f32⟩ : BufTy).Contents (Elt F) → (⟨S32x900x4, .f32⟩ : BufTy).Contents (Elt F) → (⟨S32x900x4, .f32⟩ : BufTy).Contents (Elt F)) ]
/-- Each touches TensorCore references only. -/
theorem postOps_sub : (postOps : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.binary_bufs_sub .., StableHlo.unary_bufs_sub .., StableHlo.binary_bufs_sub ..⟩

/-- The stretches before the loop. -/
abbrev preI : List (List (HloOp τ sig (Elt F))) := [cornersOps, areaOps, overlapOps, unionOps, hullOps, giouOps, maskOps]
/-- The loop's body, one stretch. -/
abbrev bodyI : List (List (HloOp τ sig (Elt F))) := [bodyOps]
/-- The stretch after the loop. -/
abbrev postI : List (List (HloOp τ sig (Elt F))) := [postOps]

set_option maxRecDepth 16384 in
set_option maxHeartbeats 4000000 in
/-- @main is the stretches before the loop, the loop, and the stretch after it. -/
theorem main_chain (c : Dev nD) : main (F := F) c = Pipeline.chain
    ((preI.map fun ops => (seq ops : Prog (TpuEff nD τ sig (Elt F) (HostLoop.Sig (Pipeline.Sig Λ₀ (Fin 0) fun p => (pcfgs (F := F) p).Adm) 1) .tc) PUnit))
      ++ HostLoop.enter 0 :: postI.map fun ops => seq ops) := by
  chain_rfl

/-- The loop's body is its one stretch. -/
theorem body_chain : main_while0_body (F := F) = Pipeline.chain (bodyI.map fun ops => seq ops) := by
  chain_rfl

theorem preI_plain : Plain (preI (F := F)) :=
  .cons cornersOps_sub (.cons areaOps_sub (.cons overlapOps_sub (.cons unionOps_sub (.cons hullOps_sub (.cons giouOps_sub (.cons maskOps_sub .nil))))))
theorem bodyI_plain : Plain (bodyI (F := F)) := .cons bodyOps_sub .nil
theorem postI_plain : Plain (postI (F := F)) := .cons postOps_sub .nil

end Cert.Proof.RI

end
-- ==== Proof.RI.Values.lean ====
/-
  What the reference's operations leave, stretch by stretch, as functions of what they find.
-/
module

public import proofs.«01_k».proof.Proof.RI.Ops

@[expose] public section

set_option maxRecDepth 16384

noncomputable section

namespace Cert.Proof.RI

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-! ## The values -/

/-- One half, for every box. -/
def half : Vec F S32x900x1 .f32 := broadcastInDim S32x900x1 ![] bcast_S_S32x900x1 (constant S_ .f32 0x3F000000#32)

/-- The corners of every box: left, top, right, bottom. -/
def corners (b : Vec F S32x900x4 .f32) : Vec F S32x900x4 .f32 :=
  concatenate S32x900x4 2
    [⟨S32x900x1, (subf (extractStridedSlice S32x900x1 ![0, 0, 0] b slices_S32x900x4_S32x900x1_0_0_0)
        (mulf half (extractStridedSlice S32x900x1 ![0, 0, 2] b slices_S32x900x4_S32x900x1_0_0_2)) : Vec F S32x900x1 .f32)⟩,
     ⟨S32x900x1, (subf (extractStridedSlice S32x900x1 ![0, 0, 1] b slices_S32x900x4_S32x900x1_0_0_1)
        (mulf half (extractStridedSlice S32x900x1 ![0, 0, 3] b slices_S32x900x4_S32x900x1_0_0_3)) : Vec F S32x900x1 .f32)⟩,
     ⟨S32x900x1, (addf (extractStridedSlice S32x900x1 ![0, 0, 0] b slices_S32x900x4_S32x900x1_0_0_0)
        (mulf half (extractStridedSlice S32x900x1 ![0, 0, 2] b slices_S32x900x4_S32x900x1_0_0_2)) : Vec F S32x900x1 .f32)⟩,
     ⟨S32x900x1, (addf (extractStridedSlice S32x900x1 ![0, 0, 1] b slices_S32x900x4_S32x900x1_0_0_1)
        (mulf half (extractStridedSlice S32x900x1 ![0, 0, 3] b slices_S32x900x4_S32x900x1_0_0_3)) : Vec F S32x900x1 .f32)⟩]
    concatenates_S32x900x1_S32x900x1_S32x900x1_S32x900x1_S32x900x4_d2

/-- The area of every box, from the corners. -/
def areas (x : Vec F S32x900x4 .f32) : Vec F S32x900 .f32 :=
  mulf
    (subf (shapeCast S32x900 (extractStridedSlice S32x900x1 ![0, 0, 2] x slices_S32x900x4_S32x900x1_0_0_2) shapeCasts_S32x900x1_S32x900)
      (shapeCast S32x900 (extractStridedSlice S32x900x1 ![0, 0, 0] x slices_S32x900x4_S32x900x1_0_0_0) shapeCasts_S32x900x1_S32x900))
    (subf (shapeCast S32x900 (extractStridedSlice S32x900x1 ![0, 0, 3] x slices_S32x900x4_S32x900x1_0_0_3) shapeCasts_S32x900x1_S32x900)
      (shapeCast S32x900 (extractStridedSlice S32x900x1 ![0, 0, 1] x slices_S32x900x4_S32x900x1_0_0_1) shapeCasts_S32x900x1_S32x900))

/-- A pair of coordinates of every box, along the rows of the table of box pairs. -/
def alongRows (u : Vec F S32x900x2 .f32) : Vec F S32x900x900x2 .f32 :=
  broadcastInDim S32x900x900x2 ![0, 1, 2, 3] bcast_S32x900x1x2_S32x900x900x2_0_1_2_3 (broadcastInDim S32x900x1x2 ![0, 1, 3] bcast_S32x900x2_S32x900x1x2_0_1_3 u)
/-- A pair of coordinates of every box, along the columns. -/
def alongCols (u : Vec F S32x900x2 .f32) : Vec F S32x900x900x2 .f32 :=
  broadcastInDim S32x900x900x2 ![0, 1, 2, 3] bcast_S32x1x900x2_S32x900x900x2_0_1_2_3 (broadcastInDim S32x1x900x2 ![0, 2, 3] bcast_S32x900x2_S32x1x900x2_0_2_3 u)
/-- The left top corner of every box, and the right bottom one. -/
def leftTop (x : Vec F S32x900x4 .f32) : Vec F S32x900x2 .f32 := extractStridedSlice S32x900x2 ![0, 0, 0] x slices_S32x900x4_S32x900x2_0_0_0
@[inherit_doc leftTop] def rightBottom (x : Vec F S32x900x4 .f32) : Vec F S32x900x2 .f32 := extractStridedSlice S32x900x2 ![0, 0, 2] x slices_S32x900x4_S32x900x2_0_0_2

/-- The extents of the overlap of every two boxes. -/
def overlap (x : Vec F S32x900x4 .f32) : Vec F S32x900x900x2 .f32 :=
  subf (minimumf (alongRows (rightBottom x)) (alongCols (rightBottom x))) (maximumf (alongRows (leftTop x)) (alongCols (leftTop x)))
/-- The extents of the hull of every two boxes. -/
def hull (x : Vec F S32x900x4 .f32) : Vec F S32x900x900x2 .f32 :=
  subf (maximumf (alongRows (rightBottom x)) (alongCols (rightBottom x))) (minimumf (alongRows (leftTop x)) (alongCols (leftTop x)))

/-- The product of two extents, each cut at 0. -/
def sizeOf (w : Vec F S32x900x900x2 .f32) : Vec F S32x900x900 .f32 :=
  let c : Vec F S32x900x900x2 .f32 := maximumf (broadcastInDim S32x900x900x2 ![] bcast_S_S32x900x900x2 (constant S_ .f32 0x00000000#32)) w
  mulf (shapeCast S32x900x900 (extractStridedSlice S32x900x900x1 ![0, 0, 0, 0] c slices_S32x900x900x2_S32x900x900x1_0_0_0_0) shapeCasts_S32x900x900x1_S32x900x900)
    (shapeCast S32x900x900 (extractStridedSlice S32x900x900x1 ![0, 0, 0, 1] c slices_S32x900x900x2_S32x900x900x1_0_0_0_1) shapeCasts_S32x900x900x1_S32x900x900)

/-- The area of the union of every two boxes, from the areas and the overlaps. -/
def unions (a : Vec F S32x900 .f32) (i : Vec F S32x900x900 .f32) : Vec F S32x900x900 .f32 :=
  subf (addf (broadcastInDim S32x900x900 ![0, 1, 2] bcast_S32x900x1_S32x900x900_0_1_2 (broadcastInDim S32x900x1 ![0, 1] bcast_S32x900_S32x900x1_0_1 a))
    (broadcastInDim S32x900x900 ![0, 1, 2] bcast_S32x1x900_S32x900x900_0_1_2 (broadcastInDim S32x1x900 ![0, 2] bcast_S32x900_S32x1x900_0_2 a))) i

/-- The generalized ratio, from the ratio, the union and the extents of the hull. -/
def ratios (q u : Vec F S32x900x900 .f32) (h : Vec F S32x900x900x2 .f32) : Vec F S32x900x900 .f32 :=
  subf q (Host.divf (subf (sizeOf h) u) (sizeOf h))

/-- Which ratios pass the threshold. -/
def passes (r : Vec F S32x900x900 .f32) : Vec F S32x900x900 .i1 :=
  cmpf .ogt r (broadcastInDim S32x900x900 ![] bcast_S_S32x900x900 (constant S_ .f32 0x3F666666#32))

/-- The adjacency the loop starts from: the passing pairs, made symmetric, as ones and zeros. -/
def adjOf (r : Vec F S32x900x900 .f32) : Vec F S32x900x900 .f32 :=
  uitofp .f32 (ori (passes r) (transpose S32x900x900 [0, 2, 1] (passes r) transposes_S32x900x900_S32x900x900_0_2_1))

/-- The generalized ratio of every two boxes. -/
def giou (b : Vec F S32x900x4 .f32) : Vec F S32x900x900 .f32 :=
  ratios (Host.divf (sizeOf (overlap (corners b))) (unions (areas (corners b)) (sizeOf (overlap (corners b)))))
    (unions (areas (corners b)) (sizeOf (overlap (corners b)))) (hull (corners b))

/-- The adjacency the loop starts from, from the boxes. -/
def adj0 (b : Vec F S32x900x4 .f32) : Vec F S32x900x900 .f32 := adjOf (giou b)

/-- One round of the loop. -/
def round (a : Vec F S32x900x900 .f32) : Vec F S32x900x900 .f32 :=
  uitofp .f32 (cmpf .ogt (addf a (Host.dotGeneral dot_S32x900x900_S32x900x900_S32x900x900_2_1_1_2_0_0 none a a) : Vec F S32x900x900 .f32)
    (broadcastInDim S32x900x900 ![] bcast_S_S32x900x900 (constant S_ .f32 0x358637BD#32)))

/-- Whether the round changed anything. -/
def changed (a : Vec F S32x900x900 .f32) : Vec F S_ .i1 :=
  Host.reduce IntOp.ori (cmpf .une (round a) a) (constantI S_ 1 0#1) reducesTo_S32x900x900_S_d0_1_2 h_S_

/-- The aggregated boxes. -/
def agg (a : Vec F S32x900x900 .f32) (b : Vec F S32x900x4 .f32) : Vec F S32x900x4 .f32 :=
  Host.divf (Host.dotGeneral dot_S32x900x900_S32x900x4_S32x900x4_2_1_1_2_0_0 none a b : Vec F S32x900x4 .f32)
    (broadcastInDim S32x900x4 ![0, 1, 2] bcast_S32x900x1_S32x900x4_0_1_2
      (addf (broadcastInDim S32x900x1 ![0, 1] bcast_S32x900_S32x900x1_0_1
          (Host.reduceAdd a (constant S_ .f32 0x00000000#32) reducesTo_S32x900x900_S32x900_d2 h_S_))
        (broadcastInDim S32x900x1 ![] bcast_S_S32x900x1 (constant S_ .f32 0x358637BD#32))))

/-! ## What each stretch leaves -/

variable (V : Valuation τ sig (Elt F))

theorem corners_v16 : after cornersOps V main_v16 = corners (V main_arg0) := by
  after_results_simp_entrywise; rfl
theorem corners_arg0 : after cornersOps V main_arg0 = V main_arg0 := by after_results_simp
theorem corners_arg1 : after cornersOps V main_arg1 = V main_arg1 := by after_results_simp

theorem area_v27 : after areaOps V main_v27 = areas (V main_v16) := by after_results_simp; rfl
theorem area_v16 : after areaOps V main_v16 = V main_v16 := by after_results_simp
theorem area_arg0 : after areaOps V main_arg0 = V main_arg0 := by after_results_simp
theorem area_arg1 : after areaOps V main_arg1 = V main_arg1 := by after_results_simp

theorem overlap_v42 : after overlapOps V main_v42 = overlap (V main_v16) := by after_results_simp; rfl
theorem overlap_v16 : after overlapOps V main_v16 = V main_v16 := by after_results_simp
theorem overlap_v27 : after overlapOps V main_v27 = V main_v27 := by after_results_simp
theorem overlap_arg0 : after overlapOps V main_arg0 = V main_arg0 := by after_results_simp
theorem overlap_arg1 : after overlapOps V main_arg1 = V main_arg1 := by after_results_simp

theorem union_v48 : after unionOps V main_v48 = sizeOf (V main_v42) := by after_results_simp; rfl
theorem union_v54 : after unionOps V main_v54 = unions (V main_v27) (sizeOf (V main_v42)) := by after_results_simp; rfl
theorem union_v16 : after unionOps V main_v16 = V main_v16 := by after_results_simp
theorem union_arg0 : after unionOps V main_arg0 = V main_arg0 := by after_results_simp
theorem union_arg1 : after unionOps V main_arg1 = V main_arg1 := by after_results_simp

theorem hull_v55 : after hullOps V main_v55 = (Host.divf (V main_v48 : Vec F S32x900x900 .f32) (V main_v54) : Vec F S32x900x900 .f32) := by after_results_simp
theorem hull_v70 : after hullOps V main_v70 = hull (V main_v16) := by after_results_simp; rfl
theorem hull_v54 : after hullOps V main_v54 = V main_v54 := by after_results_simp
theorem hull_arg0 : after hullOps V main_arg0 = V main_arg0 := by after_results_simp
theorem hull_arg1 : after hullOps V main_arg1 = V main_arg1 := by after_results_simp

theorem giou_v79 : after giouOps V main_v79 = ratios (V main_v55) (V main_v54) (V main_v70) := by after_results_simp; rfl
theorem giou_arg0 : after giouOps V main_arg0 = V main_arg0 := by after_results_simp
theorem giou_arg1 : after giouOps V main_arg1 = V main_arg1 := by after_results_simp

theorem mask_v85_0 : after maskOps V main_v85_0 = constantI S_ 32 0#32 := by after_results_simp; rfl
theorem mask_v85_1 : after maskOps V main_v85_1 = adjOf (V main_v79) := by after_results_simp; rfl
theorem mask_v85_2 : after maskOps V main_v85_2 = constantI S_ 1 1#1 := by after_results_simp; rfl
theorem mask_arg0 : after maskOps V main_arg0 = V main_arg0 := by after_results_simp
theorem mask_arg1 : after maskOps V main_arg1 = V main_arg1 := by after_results_simp

theorem cond_v85_0 : after condOps V main_v85_0 = V main_v85_0 := by after_results_simp
theorem cond_v85_1 : after condOps V main_v85_1 = V main_v85_1 := by after_results_simp
theorem cond_v85_2 : after condOps V main_v85_2 = V main_v85_2 := by after_results_simp
theorem cond_arg0 : after condOps V main_arg0 = V main_arg0 := by after_results_simp
theorem cond_arg1 : after condOps V main_arg1 = V main_arg1 := by after_results_simp

theorem cond_v94 : after condOps V main_while0c_v94 = (andi (cmpi .slt (V main_v85_0 : Vec F S_ .i32) (constantI S_ 32 900#32) : Vec F S_ .i1) (V main_v85_2) : Vec F S_ .i1) := by after_results_simp
theorem body_v85_0 : after bodyOps V main_v85_0 = (addi (V main_v85_0 : Vec F S_ .i32) (constantI S_ 32 1#32) : Vec F S_ .i32) := by after_results_simp; rfl
theorem body_v85_1 : after bodyOps V main_v85_1 = round (V main_v85_1) := by after_results_simp; rfl
theorem body_v85_2 : after bodyOps V main_v85_2 = changed (V main_v85_1) := by unfold changed round; after_results_simp; exact id_eq _
theorem body_arg0 : after bodyOps V main_arg0 = V main_arg0 := by after_results_simp
theorem body_arg1 : after bodyOps V main_arg1 = V main_arg1 := by after_results_simp

theorem post_v92 : after postOps V main_v92 = agg (V main_v85_1) (V main_arg0) := by after_results_simp; rfl
theorem post_v85_1 : after postOps V main_v85_1 = V main_v85_1 := by after_results_simp
theorem post_arg0 : after postOps V main_arg0 = V main_arg0 := by after_results_simp
theorem post_arg1 : after postOps V main_arg1 = V main_arg1 := by after_results_simp

end Cert.Proof.RI

end
-- ==== Proof.RI.Run.lean ====
/-
  The reference's run: how often its loop goes round and what its results hold at the end.
-/
module

public import proofs.«01_k».proof.Proof.RI.Values

@[expose] public section

noncomputable section

namespace Cert.Proof.RI

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs)

variable {F : FTy → Type} [FloatOps F]

/-! ## How often the loop goes round -/

/-- The adjacency after `k` rounds. -/
def rounds (b : Vec F S32x900x4 .f32) (k : ℕ) : Vec F S32x900x900 .f32 := round^[k] (adj0 b)

theorem rounds_succ (b : Vec F S32x900x4 .f32) (k : ℕ) : rounds b (k + 1) = round (rounds b k) :=
  Function.iterate_succ_apply' ..

/-- The flag the condition reads before round `k`: set at first, then whether the last round changed anything. -/
def flag (b : Vec F S32x900x4 .f32) : ℕ → Vec F S_ .i1
  | 0 => constantI S_ 1 1#1
  | k + 1 => changed (rounds b k)

/-- The loop ends before round `k`. -/
def Ends (b : Vec F S32x900x4 .f32) (k : ℕ) : Prop := k = 900 ∨ ¬ flag b k HostLoop.idx0 = 1#1

open Classical in
/-- The number of rounds. -/
def roundCount (b : Vec F S32x900x4 .f32) : ℕ := Nat.find (p := Ends b) ⟨900, .inl rfl⟩

open Classical in
theorem roundCount_ends (b : Vec F S32x900x4 .f32) : Ends b (roundCount b) := Nat.find_spec (p := Ends b) _

open Classical in
theorem roundCount_le (b : Vec F S32x900x4 .f32) : roundCount b ≤ 900 := Nat.find_min' _ (.inl rfl)

open Classical in
theorem not_ends {b : Vec F S32x900x4 .f32} {k : ℕ} (h : k < roundCount b) : ¬ Ends b k := Nat.find_min _ h

theorem lt900 (k : ℕ) (hk : k ≤ 900) : (IntOp.cmpi .slt (BitVec.ofNat 32 k) 900#32 = 1#1) ↔ k < 900 := by
  have hn : (BitVec.ofNat 32 k).toNat = k := by rw [BitVec.toNat_ofNat]; omega
  have h1 : (BitVec.ofNat 32 k).toInt = k := by
    rw [BitVec.toInt_eq_toNat_of_lt (by rw [hn]; omega), hn]
  have h2 : IntOp.cmpi .slt (BitVec.ofNat 32 k) 900#32 = BitVec.ofBool (decide ((BitVec.ofNat 32 k).toInt < (900#32).toInt)) := rfl
  rw [h2, h1, show (900#32).toInt = 900 from by decide]
  by_cases h : k < 900
  · simp [h, show (k : ℤ) < 900 from by omega]
  · simp [h, show ¬ (k : ℤ) < 900 from by omega]

theorem andi_eq_one : ∀ x y : BitVec 1, IntOp.andi x y = 1#1 ↔ x = 1#1 ∧ y = 1#1 := by decide

/-- Before round `k` the condition's value is 1 exactly while there are rounds left. -/
theorem pred_iff (b : Vec F S32x900x4 .f32) (k : ℕ) (hk : k ≤ roundCount b) :
    IntOp.andi (IntOp.cmpi .slt (BitVec.ofNat 32 k) 900#32) (flag b k HostLoop.idx0) = 1#1 ↔ k < roundCount b := by
  have h900 := roundCount_le b
  rw [andi_eq_one, lt900 k (by omega)]
  constructor
  · rintro ⟨h1, h2⟩
    refine lt_of_le_of_ne hk fun he => ?_
    subst he
    rcases roundCount_ends b with h | h
    · omega
    · exact h h2
  · intro h
    have := not_ends h
    unfold Ends at this
    push Not at this
    exact ⟨by omega, this.2⟩

/-! ## The buffers at each round -/

variable (m : (ℓ : Loc nD τ sig) → Buf (Elt F) ℓ)

/-- The boxes a device starts from, and the other argument. -/
def boxes (c : Dev nD) : Vec F S32x900x4 .f32 := m ((c.tc : Thread nD τ).loc main_arg0)
@[inherit_doc boxes] def logits (c : Dev nD) : Vec F S32x900x91 .f32 := m ((c.tc : Thread nD τ).loc main_arg1)

/-- The buffers before round `k`. -/
abbrev atRound (k : ℕ) (c : Dev nD) : Valuation τ sig (Elt F) := atTrip condOps bodyI (entryContents preI m) k c

theorem at_arg0 (c : Dev nD) : ∀ k, atRound m k c main_arg0 = boxes m c
  | 0 => by
    show after maskOps (after giouOps (after hullOps (after unionOps (after overlapOps (after areaOps (after cornersOps (launchContents m c))))))) main_arg0 = _
    rw [mask_arg0, giou_arg0, hull_arg0, union_arg0, overlap_arg0, area_arg0, corners_arg0]; rfl
  | k + 1 => by
    show after bodyOps (after condOps (atRound m k c)) main_arg0 = _
    rw [body_arg0, cond_arg0, at_arg0 c k]

theorem at_arg1 (c : Dev nD) : ∀ k, atRound m k c main_arg1 = logits m c
  | 0 => by
    show after maskOps (after giouOps (after hullOps (after unionOps (after overlapOps (after areaOps (after cornersOps (launchContents m c))))))) main_arg1 = _
    rw [mask_arg1, giou_arg1, hull_arg1, union_arg1, overlap_arg1, area_arg1, corners_arg1]; rfl
  | k + 1 => by
    show after bodyOps (after condOps (atRound m k c)) main_arg1 = _
    rw [body_arg1, cond_arg1, at_arg1 c k]

theorem at_v85_0 (c : Dev nD) : ∀ k, atRound m k c main_v85_0 = fun _ => BitVec.ofNat 32 k
  | 0 => by
    show after maskOps (afterL (F := F) [cornersOps, areaOps, overlapOps, unionOps, hullOps, giouOps] (launchContents m c)) main_v85_0 = _
    rw [mask_v85_0]; rfl
  | k + 1 => by
    show after bodyOps (after condOps (atRound m k c)) main_v85_0 = _
    rw [body_v85_0, cond_v85_0, at_v85_0 c k]
    funext i
    show BitVec.ofNat 32 k + 1#32 = _
    rw [BitVec.ofNat_add]

theorem at_v85_1 (c : Dev nD) : ∀ k, atRound m k c main_v85_1 = rounds (boxes m c) k
  | 0 => by
    show after maskOps (after giouOps (after hullOps (after unionOps (after overlapOps (after areaOps (after cornersOps (launchContents m c))))))) main_v85_1 = _
    rw [mask_v85_1, giou_v79, hull_v55, hull_v54, hull_v70, union_v48, union_v54, union_v16, overlap_v42, overlap_v27, overlap_v16,
      area_v27, area_v16, corners_v16]; rfl
  | k + 1 => by
    show after bodyOps (after condOps (atRound m k c)) main_v85_1 = _
    rw [body_v85_1, cond_v85_1, at_v85_1 c k, rounds_succ]

theorem at_v85_2 (c : Dev nD) : ∀ k, atRound m k c main_v85_2 = flag (boxes m c) k
  | 0 => by
    show after maskOps (afterL (F := F) [cornersOps, areaOps, overlapOps, unionOps, hullOps, giouOps] (launchContents m c)) main_v85_2 = _
    rw [mask_v85_2]; rfl
  | k + 1 => by
    show after bodyOps (after condOps (atRound m k c)) main_v85_2 = _
    rw [body_v85_2, cond_v85_1, at_v85_1 m c k]; rfl

/-! ## The condition -/

/-- The number of rounds from a memory: the one device's. -/
def roundsOf : ℕ := roundCount (boxes m 0)

set_option backward.isDefEq.respectTransparency.types false in
/-- The condition before round `k`: it answers 1 exactly while there are rounds left, and leaves its operations' results. -/
theorem cond_spec : CondSpec (pcfgs (F := F)) defs₀ (loops (F := F)) (main_while0_cond (F := F)) condOps bodyI (entryContents preI m) (roundsOf m) := by
  intro k hk c bd
  obtain rfl : c = 0 := Subsingleton.elim _ _
  have h0 := at_v85_0 m 0 k
  have h2 := at_v85_2 m 0 k
  unfold main_while0_cond
  rw [wp_bind]
  iintro ⟨Hb, Hh⟩
  iapply (StableHlo.wp_hlo_within (Variants.lift Variants.none) ((0 : Dev nD) : Thread nD τ) bd Set.univ (sub_ucRefs _ (StableHlo.nullary_bufs_sub ..))) $$ [Hb Hh]
  · isplitl [Hb]; · iexact Hb
    iexact Hh
  iintro ⟨Hb, Hh⟩
  rw [wp_ret]; imodintro
  rw [wp_bind]
  iapply (StableHlo.wp_hlo_within (Variants.lift Variants.none) ((0 : Dev nD) : Thread nD τ) bd Set.univ (sub_ucRefs _ (StableHlo.binary_bufs_sub ..))) $$ [Hb Hh]
  · isplitl [Hb]; · iexact Hb
    iexact Hh
  iintro ⟨Hb, Hh⟩
  rw [wp_ret]; imodintro
  iapply (StableHlo.wp_hlo_within (Variants.lift Variants.none) ((0 : Dev nD) : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    have h := cond_v94 (atRound m k 0)
    rw [h0, h2] at h
    have hp := pred_iff (boxes m 0) k hk
    have he : (after condOps (atRound m k 0) main_while0c_v94 : Vec F S_ .i1) HostLoop.idx0
        = IntOp.andi (IntOp.cmpi .slt (BitVec.ofNat 32 k) 900#32) (flag (boxes m 0) k HostLoop.idx0) := congrFun h HostLoop.idx0
    rw [← he] at hp
    exact hp
  isplitl [Hb]; · iexact Hb
  iexact Hh

/-! ## The run -/

theorem final_v92 (c : Dev nD) : finalContents condOps preI bodyI postI (roundsOf m) m c main_v92 = agg (rounds (boxes m c) (roundsOf m)) (boxes m c) := by
  show after postOps (after condOps (atRound m (roundsOf m) c)) main_v92 = _
  rw [post_v92, cond_v85_1, cond_arg0, at_v85_1, at_arg0]
theorem final_v85_1 (c : Dev nD) : finalContents condOps preI bodyI postI (roundsOf m) m c main_v85_1 = rounds (boxes m c) (roundsOf m) := by
  show after postOps (after condOps (atRound m (roundsOf m) c)) main_v85_1 = _
  rw [post_v85_1, cond_v85_1, at_v85_1]
theorem final_arg0 (c : Dev nD) : finalContents condOps preI bodyI postI (roundsOf m) m c main_arg0 = boxes m c := by
  show after postOps (after condOps (atRound m (roundsOf m) c)) main_arg0 = _
  rw [post_arg0, cond_arg0, at_arg0]
theorem final_arg1 (c : Dev nD) : finalContents condOps preI bodyI postI (roundsOf m) m c main_arg1 = logits m c := by
  show after postOps (after condOps (atRound m (roundsOf m) c)) main_arg1 = _
  rw [post_arg1, cond_arg1, at_arg1]

/-- The reference's run: its results hold the adjacency after the last round and the boxes it aggregates, and its arguments end unchanged. -/
theorem run [∀ e, Nonempty (Elt F e)] (ρ : Dev nD → PrngReg) : θ_run defs (onTc (τ := τ) (main (F := F))) ⟨m, fun _ => 0, ρ⟩ (fun r => ∀ c : Dev nD,
      r.2.mem ((c.tc : Thread nD τ).loc main_v92) = agg (rounds (boxes m c) (roundsOf m)) (boxes m c)
      ∧ r.2.mem ((c.tc : Thread nD τ).loc main_v85_1) = rounds (boxes m c) (roundsOf m)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_v92 rfl).trans (final_v92 m c), (h c main_v85_1 rfl).trans (final_v85_1 m c),
      (h c main_arg0 rfl).trans (final_arg0 m c), (h c main_arg1 rfl).trans (final_arg1 m c)⟩)
    (run_loop (pcfgs (F := F)) defs₀ loops main 0 main_while0_cond main_while0_body rfl preI bodyI postI condOps preI_plain bodyI_plain postI_plain
      main_chain body_chain (roundsOf m) m ρ (cond_spec m))

/-- The frame: the arguments end unchanged and every counter at zero. -/
theorem frame [∀ e, Nonempty (Elt F e)] (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (run m ρ)

end Cert.Proof.RI

end
-- ==== Proof.KI.Tile.lean ====
/-
  One tile of the seed planes: the mask of a block of 128 rows of boxes against a block of 128 columns, and that each of
  the sixteen tiles one round of the seed loop stores is such a mask.
-/
module

public import proofs.«01_k».proof.Proof.KI.Run

@[expose] public section

set_option maxRecDepth 16384

noncomputable section

namespace Cert.Proof.KI

open Cert.KernelIdeal Cert.KernelIdeal.Gen
open Idealize.ShloMosaic Idealize.ShloMosaic.TcCoe

variable {F : FTy → Type} [FloatOps F]

/-- A column of 128 numbers repeated along the rows of a tile. -/
def down (u : FVec F S128x1 .f32) : FVec F S128x128 .f32 := broadcastTo S128x128 u broadcasts_S128x1_S128x128

/-- A row of 128 numbers repeated along the columns of a tile. -/
def across (u : FVec F S1x128 .f32) : FVec F S128x128 .f32 := broadcastTo S128x128 u broadcasts_S1x128_S128x128

/-- The tile that holds one number everywhere. -/
def flat (b : BitVec 32) : FVec F S128x128 .f32 := broadcast S128x128 (Scalar.ofBits .f32 b)

/-- The overlap of the boxes of `v` with those whose corners are the rows `x1`, `y1`, `x2`, `y2`. -/
def tileOverlap (v : Vec F S1x128x8 .f32) (x1 y1 x2 y2 : FVec F S1x128 .f32) : FVec F S128x128 .f32 :=
  mulf (maximumf (subf (minimumf (down (k0_pay11 v)) (across x2)) (maximumf (down (k0_pay9 v)) (across x1))) (flat 0x00000000#32))
    (maximumf (subf (minimumf (down (k0_pay12 v)) (across y2)) (maximumf (down (k0_pay10 v)) (across y1))) (flat 0x00000000#32))

/-- The area two boxes cover together. -/
def tileUnion (v : Vec F S1x128x8 .f32) (x1 y1 x2 y2 ar : FVec F S1x128 .f32) : FVec F S128x128 .f32 :=
  subf (addf (down (k0_pay13 v)) (across ar)) (tileOverlap v x1 y1 x2 y2)

/-- The area of the smallest box around two boxes. -/
def tileHull (v : Vec F S1x128x8 .f32) (x1 y1 x2 y2 : FVec F S1x128 .f32) : FVec F S128x128 .f32 :=
  mulf (maximumf (subf (maximumf (down (k0_pay11 v)) (across x2)) (minimumf (down (k0_pay9 v)) (across x1))) (flat 0x00000000#32))
    (maximumf (subf (maximumf (down (k0_pay12 v)) (across y2)) (minimumf (down (k0_pay10 v)) (across y1))) (flat 0x00000000#32))

/-- The mask of a tile. -/
def tile (v : Vec F S1x128x8 .f32) (x1 y1 x2 y2 ar : FVec F S1x128 .f32) : FVec F S128x128 .f32 :=
  select
    (cmpf .ogt
      (subf (divf (tileOverlap v x1 y1 x2 y2) (tileUnion v x1 y1 x2 y2 ar))
        (divf (subf (tileHull v x1 y1 x2 y2) (tileUnion v x1 y1 x2 y2 ar)) (tileHull v x1 y1 x2 y2)))
      (flat 0x3F666666#32))
    (flat 0x3F800000#32) (flat 0x00000000#32)

/-- The tile of the columns that begin at `o`. -/
def tileAt (v : Vec F S1x128x8 .f32) (x1 y1 x2 y2 ar : FVec F S1x1024 .f32) (o : ℕ) (h : S1x1024.Slices ![0, o] S1x128) : FVec F S128x128 .f32 :=
  tile v (extractStridedSlice S1x128 ![0, o] x1 h) (extractStridedSlice S1x128 ![0, o] y1 h) (extractStridedSlice S1x128 ![0, o] x2 h)
    (extractStridedSlice S1x128 ![0, o] y2 h) (extractStridedSlice S1x128 ![0, o] ar h)

/-- The eight tiles of a block of rows added up, from the left. -/
def tileSum (v : Vec F S1x128x8 .f32) (x1 y1 x2 y2 ar : FVec F S1x1024 .f32) : FVec F S128x128 .f32 :=
  let t := tileAt v x1 y1 x2 y2 ar
  addf (addf (addf (addf (addf (addf (addf (addf (flat 0x00000000#32) (t 0 slices_S1x1024_o0_0_S1x128)) (t 128 slices_S1x1024_o0_128_S1x128))
    (t 256 slices_S1x1024_o0_256_S1x128)) (t 384 slices_S1x1024_o0_384_S1x128)) (t 512 slices_S1x1024_o0_512_S1x128))
    (t 640 slices_S1x1024_o0_640_S1x128)) (t 768 slices_S1x1024_o0_768_S1x128)) (t 896 slices_S1x1024_o0_896_S1x128)

/-- The sum of a tile's numbers. -/
def total (t : FVec F S128x128 .f32) : F .f32 :=
  extractAt ![0, 0, 0]
    (shapeCast S1x1x1
      (multiReduction .add [1, 2] S1 (shapeCast S1x128x128 t shapeCasts_S128x128_S1x128x128) 0x00000000#32 reduces_S1x128x128_S1 (.inl rfl) rfl)
      shapeCasts_S1_S1x1x1)
    inpos_S1x1x1_p0_0_0

/-- A tile as it is stored. -/
def stored (t : FVec F S128x128 .f32) : FVec F S1x128x128 .bf16 :=
  shapeCast S1x128x128 (truncf .bf16 t bitsLt_bf16_f32) shapeCasts_S128x128_S1x128x128

section
variable (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole) (v6 v11 v16 v21 v24 v31 v36 v41 v42 v43 v44 : FVec F S1x1024 .f32) (X : BufTy.Contents (Elt F) arg1.view.ty) (k : Fin k0_t1_loop.trips) (acc : F .f32 × F .f32)

/-- Rows `128 k` to `128 k + 127` of the first batch's boxes. -/
def blockA : Vec F S1x128x8 .f32 := arg1.view.readAt (Elt F) (Rect.unit (s := S2x1024x8) (k0_off1 k) S1x128x8.size (k0_off1_inb k)).toLoadRect X

/-- Rows `128 k` to `128 k + 127` of the second batch's boxes. -/
def blockB : Vec F S1x128x8 .f32 := arg1.view.readAt (Elt F) (Rect.unit (s := S2x1024x8) (k0_off10 k) S1x128x8.size (k0_off10_inb k)).toLoadRect X

set_option maxHeartbeats 2000000 in
/-- The tiles round `k` of the seed loop stores, last first. -/
theorem trip_pieces :
   tripL_k0_t1 𝒱₀ c none i arg1 harg1 arg2 harg2 arg3 harg3 arg4 harg4 arg5 harg5 arg6 harg6 v6 v11 v16 v21 v24 v31 v36 v41 v42 v43 v44 X k acc =
     let a := tileAt (blockA arg1 X k) v6 v11 v16 v21 v24
     let b := tileAt (blockB arg1 X k) v31 v36 v41 (k0_pay180 v42 v43 v44) (k0_pay181 v31 v36 v41 v42 v43 v44)
     [⟨Rect.unit (k0_off18 k) ![1, 128, 128] (k0_off18_inb k), stored (b 896 slices_S1x1024_o0_896_S1x128)⟩,
      ⟨Rect.unit (k0_off17 k) ![1, 128, 128] (k0_off17_inb k), stored (b 768 slices_S1x1024_o0_768_S1x128)⟩,
      ⟨Rect.unit (k0_off16 k) ![1, 128, 128] (k0_off16_inb k), stored (b 640 slices_S1x1024_o0_640_S1x128)⟩,
      ⟨Rect.unit (k0_off15 k) ![1, 128, 128] (k0_off15_inb k), stored (b 512 slices_S1x1024_o0_512_S1x128)⟩,
      ⟨Rect.unit (k0_off14 k) ![1, 128, 128] (k0_off14_inb k), stored (b 384 slices_S1x1024_o0_384_S1x128)⟩,
      ⟨Rect.unit (k0_off13 k) ![1, 128, 128] (k0_off13_inb k), stored (b 256 slices_S1x1024_o0_256_S1x128)⟩,
      ⟨Rect.unit (k0_off12 k) ![1, 128, 128] (k0_off12_inb k), stored (b 128 slices_S1x1024_o0_128_S1x128)⟩,
      ⟨Rect.unit (k0_off11 k) ![1, 128, 128] (k0_off11_inb k), stored (b 0 slices_S1x1024_o0_0_S1x128)⟩,
      ⟨Rect.unit (k0_off9 k) ![1, 128, 128] (k0_off9_inb k), stored (a 896 slices_S1x1024_o0_896_S1x128)⟩,
      ⟨Rect.unit (k0_off8 k) ![1, 128, 128] (k0_off8_inb k), stored (a 768 slices_S1x1024_o0_768_S1x128)⟩,
      ⟨Rect.unit (k0_off7 k) ![1, 128, 128] (k0_off7_inb k), stored (a 640 slices_S1x1024_o0_640_S1x128)⟩,
      ⟨Rect.unit (k0_off6 k) ![1, 128, 128] (k0_off6_inb k), stored (a 512 slices_S1x1024_o0_512_S1x128)⟩,
      ⟨Rect.unit (k0_off5 k) ![1, 128, 128] (k0_off5_inb k), stored (a 384 slices_S1x1024_o0_384_S1x128)⟩,
      ⟨Rect.unit (k0_off4 k) ![1, 128, 128] (k0_off4_inb k), stored (a 256 slices_S1x1024_o0_256_S1x128)⟩,
      ⟨Rect.unit (k0_off3 k) ![1, 128, 128] (k0_off3_inb k), stored (a 128 slices_S1x1024_o0_128_S1x128)⟩,
      ⟨Rect.unit (k0_off2 k) ![1, 128, 128] (k0_off2_inb k), stored (a 0 slices_S1x1024_o0_0_S1x128)⟩] := by
  unfold tripL_k0_t1 trip_k0_t1
  rfl

/-- What round `k` of the seed loop makes of the two carried counts. -/
theorem trip_counts :
   tripR_k0_t1 𝒱₀ c none i arg1 harg1 arg2 harg2 arg3 harg3 arg4 harg4 arg5 harg5 arg6 harg6 v6 v11 v16 v21 v24 v31 v36 v41 v42 v43 v44 X k acc =
     (Scalar.addf acc.1 (total (tileSum (blockA arg1 X k) v6 v11 v16 v21 v24)),
      Scalar.addf acc.2 (total (tileSum (blockB arg1 X k) v31 v36 v41 (k0_pay180 v42 v43 v44) (k0_pay181 v31 v36 v41 v42 v43 v44)))) := by
  unfold tripR_k0_t1 trip_k0_t1
  rfl
end

end Cert.Proof.KI

end
-- ==== Proof.Math.Giou.lean ====
/-
  The generalised intersection over union of two boxes over the extended reals: it is symmetric, and no box whose sides
  are not negative is near a box of zeros.
-/
module

public import Idealize.ShloMosaic.PureOps.Ideal
public import Mathlib.Tactic.NormNum
public import Mathlib.Tactic.Linarith

@[expose] public section

noncomputable section

namespace Cert.Proof.Math

open Idealize.ShloMosaic

/-- One half, as the programs write it. -/
def half : EReal := Ideal.ofBits .f32 0x3F000000#32

/-- The threshold of nearness, as the programs write it. -/
def threshold : EReal := Ideal.ofBits .f32 0x3F666666#32

/-- The small number the programs add to a count and compare a step with. -/
def tiny : EReal := Ideal.ofBits .f32 0x358637BD#32

theorem half_eq : half = (((1 : ℝ) / 2 : ℝ) : EReal) := by
  simp [half, Ideal.ofBits, Ideal.ieee, -EReal.coe_mul]; norm_num

theorem threshold_pos : 0 < threshold := by
  simp [threshold, Ideal.ofBits, Ideal.ieee, -EReal.coe_mul]

theorem tiny_pos : 0 < tiny := by
  simp [tiny, Ideal.ofBits, Ideal.ieee, -EReal.coe_mul]

theorem tiny_lt_one : tiny < 1 := by
  rw [← EReal.coe_one]
  simp [tiny, Ideal.ofBits, Ideal.ieee, -EReal.coe_mul, -EReal.coe_one]; norm_num

/-- The measure from the two boxes' corners and areas. -/
def giouOf (x1 y1 x2 y2 a x1' y1' x2' y2' a' : EReal) : EReal :=
  Ideal.div (max (min x2 x2' - max x1 x1') 0 * max (min y2 y2' - max y1 y1') 0)
      (a + a' - max (min x2 x2' - max x1 x1') 0 * max (min y2 y2' - max y1 y1') 0)
    - Ideal.div (max (max x2 x2' - min x1 x1') 0 * max (max y2 y2' - min y1 y1') 0
        - (a + a' - max (min x2 x2' - max x1 x1') 0 * max (min y2 y2' - max y1 y1') 0))
      (max (max x2 x2' - min x1 x1') 0 * max (max y2 y2' - min y1 y1') 0)

theorem giouOf_comm (x1 y1 x2 y2 a x1' y1' x2' y2' a' : EReal) :
    giouOf x1 y1 x2 y2 a x1' y1' x2' y2' a' = giouOf x1' y1' x2' y2' a' x1 y1 x2 y2 a := by
  unfold giouOf
  rw [min_comm x2, max_comm x1, min_comm y2, max_comm y1, max_comm x2, min_comm x1, max_comm y2, min_comm y1, add_comm a]

/-- The low end of a side given by its middle and its length. -/
def lo (c w : EReal) : EReal := c - half * w

/-- The high end of a side. -/
def hi (c w : EReal) : EReal := c + half * w

/-- The area of a box given by its middle and its two lengths. -/
def area (b : Fin 4 → EReal) : EReal := (hi (b 0) (b 2) - lo (b 0) (b 2)) * (hi (b 1) (b 3) - lo (b 1) (b 3))

/-- The measure of two boxes, each given by its middle and its two lengths. -/
def giou (b b' : Fin 4 → EReal) : EReal :=
  giouOf (lo (b 0) (b 2)) (lo (b 1) (b 3)) (hi (b 0) (b 2)) (hi (b 1) (b 3)) (area b)
    (lo (b' 0) (b' 2)) (lo (b' 1) (b' 3)) (hi (b' 0) (b' 2)) (hi (b' 1) (b' 3)) (area b')

/-- Two boxes whose measure is above the threshold. -/
def Near (b b' : Fin 4 → EReal) : Prop := threshold < giou b b'

theorem near_comm (b b' : Fin 4 → EReal) : Near b b' ↔ Near b' b := by
  unfold Near giou
  rw [giouOf_comm]

/-- A side of no negative length, against a side of length zero at zero: where the side that encloses both has length
    zero so has the first; where it is not infinite the first is no longer. -/
theorem side (c w : EReal) (hw : 0 ≤ w) :
    (max (max (hi c w) 0 - min (lo c w) 0) 0 = 0 → hi c w - lo c w = 0)
      ∧ (max (max (hi c w) 0 - min (lo c w) 0) 0 ≠ ⊤ →
          0 ≤ hi c w - lo c w ∧ hi c w - lo c w ≤ max (max (hi c w) 0 - min (lo c w) 0) 0) := by
  have hle : hi c w - lo c w ≤ max (max (hi c w) 0 - min (lo c w) 0) 0 :=
    le_trans (EReal.sub_le_sub (le_max_left _ _) (min_le_left _ _)) (le_max_left _ _)
  unfold hi lo at hle ⊢
  rw [half_eq] at hle ⊢
  induction c with
  | bot => simp
  | top =>
    have h2 : (⊤ : EReal) + (((1 : ℝ) / 2 : ℝ) : EReal) * w = ⊤ := by
      refine EReal.top_add_of_ne_bot fun h => ?_
      have : (0 : EReal) ≤ (((1 : ℝ) / 2 : ℝ) : EReal) * w := mul_nonneg (by exact_mod_cast (by norm_num : (0 : ℝ) ≤ 1 / 2)) hw
      rw [h] at this
      exact absurd this (by simp)
    rw [h2]
    have h3 : max (max (⊤ : EReal) 0 - min (⊤ - (((1 : ℝ) / 2 : ℝ) : EReal) * w) 0) 0 = ⊤ := by
      have hm : min (⊤ - (((1 : ℝ) / 2 : ℝ) : EReal) * w) 0 ≠ ⊤ := ne_of_lt (lt_of_le_of_lt (min_le_right _ _) EReal.zero_lt_top)
      generalize min (⊤ - (((1 : ℝ) / 2 : ℝ) : EReal) * w) 0 = z at hm
      induction z with
      | bot => simp
      | top => exact absurd rfl hm
      | coe z => simp
    rw [h3]
    simp
  | coe c =>
    induction w with
    | bot => simp at hw
    | top =>
      rw [EReal.coe_mul_top_of_pos (by norm_num)]
      simp
    | coe w =>
      have hw' : 0 ≤ w := by exact_mod_cast hw
      have hp : (c : EReal) + (((1 : ℝ) / 2 : ℝ) : EReal) * w = ((c + 1 / 2 * w : ℝ) : EReal) := by push_cast; rfl
      have hq : (c : EReal) - (((1 : ℝ) / 2 : ℝ) : EReal) * w = ((c - 1 / 2 * w : ℝ) : EReal) := by push_cast; rfl
      rw [hp, hq] at hle ⊢
      rw [← EReal.coe_sub] at hle ⊢
      refine ⟨fun h => ?_, fun _ => ⟨by exact_mod_cast (by linarith : (0:ℝ) ≤ c + 1 / 2 * w - (c - 1 / 2 * w)), hle⟩⟩
      rw [h] at hle
      refine le_antisymm hle ?_
      exact_mod_cast (by linarith : (0:ℝ) ≤ c + 1 / 2 * w - (c - 1 / 2 * w))

/-- The box of zeros. -/
def pad : Fin 4 → EReal := fun _ => 0

/-- No box whose sides are not negative is near the box of zeros. -/
theorem not_near_pad (b : Fin 4 → EReal) (hw : 0 ≤ b 2) (hh : 0 ≤ b 3) : ¬Near b pad := by
  have hlo : lo 0 0 = 0 := by simp [lo]
  have hhi : hi 0 0 = 0 := by simp [hi]
  have ha : area pad = 0 := by simp [area, pad, hlo, hhi]
  refine not_lt.mpr (le_trans ?_ threshold_pos.le)
  unfold giou giouOf
  rw [ha]
  simp only [pad, hlo, hhi]
  have hi0 : ∀ p q : EReal, max (min p 0 - max q 0) 0 = 0 := fun p q => by
    refine max_eq_right (le_trans (EReal.sub_le_sub (min_le_right p 0) (le_max_right q 0)) ?_)
    simp
  rw [hi0, zero_mul, add_zero, sub_zero]
  obtain ⟨hx0, hx⟩ := side (b 0) (b 2) hw
  obtain ⟨hy0, hy⟩ := side (b 1) (b 3) hh
  unfold area
  set dx := hi (b 0) (b 2) - lo (b 0) (b 2)
  set dy := hi (b 1) (b 3) - lo (b 1) (b 3)
  have hW : 0 ≤ max (max (hi (b 0) (b 2)) 0 - min (lo (b 0) (b 2)) 0) 0 := le_max_right _ _
  have hH : 0 ≤ max (max (hi (b 1) (b 3)) 0 - min (lo (b 1) (b 3)) 0) 0 := le_max_right _ _
  generalize max (max (hi (b 0) (b 2)) 0 - min (lo (b 0) (b 2)) 0) 0 = W at hW hx0 hx ⊢
  generalize max (max (hi (b 1) (b 3)) 0 - min (lo (b 1) (b 3)) 0) 0 = H at hH hy0 hy ⊢
  by_cases hd : dx * dy = 0
  · rw [hd]
    have : Ideal.div 0 0 = ⊥ := by simp [Ideal.div]
    rw [this]
    simp
  have hdx : W ≠ 0 := fun h => hd (by rw [hx0 h, zero_mul])
  have hdy : H ≠ 0 := fun h => hd (by rw [hy0 h, mul_zero])
  have hWH : W * H ≠ 0 := mul_ne_zero hdx hdy
  have h1 : Ideal.div 0 (dx * dy) = 0 := by unfold Ideal.div; rw [if_neg hd, zero_mul]
  rw [h1]
  have h2 : 0 ≤ Ideal.div (W * H - dx * dy) (W * H) := by
    unfold Ideal.div
    rw [if_neg hWH]
    by_cases ht : W * H = ⊤
    · rw [ht, EReal.inv_top, mul_zero]
    have hWt : W ≠ ⊤ := fun h => ht (by rw [h]; exact EReal.top_mul_of_pos (lt_of_le_of_ne hH (Ne.symm hdy)))
    have hHt : H ≠ ⊤ := fun h => ht (by rw [h]; exact EReal.mul_top_of_pos (lt_of_le_of_ne hW (Ne.symm hdx)))
    refine mul_nonneg ?_ (EReal.inv_nonneg_of_nonneg (mul_nonneg hW hH))
    exact (EReal.sub_nonneg (.inl ht) (.inl (ne_of_gt (lt_of_lt_of_le EReal.bot_lt_zero (mul_nonneg hW hH))))).mpr
      (mul_le_mul (hx hWt).2 (hy hHt).2 (hy hHt).1 hW)
  rw [zero_sub]
  simpa using h2

end Cert.Proof.Math

end
-- ==== Proof.Math.Relation.lean ====
/-
  A relation as a matrix of zeros and ones over the extended reals: one squaring step, and when a step changes nothing.
-/
module

public import Mathlib.Data.EReal.Operations
public import Mathlib.Algebra.BigOperators.Fin
public import Mathlib.Algebra.Order.BigOperators.Group.Finset
public import Mathlib.Tactic.Push

@[expose] public section

noncomputable section

open scoped Classical

namespace Cert.Proof.Math

/-- One where the proposition holds, zero elsewhere. -/
def ind (p : Prop) : EReal := if p then 1 else 0

theorem ind_true {p : Prop} (h : p) : ind p = 1 := if_pos h

theorem ind_false {p : Prop} (h : ¬p) : ind p = 0 := if_neg h

/-- Such a number is one of two. -/
theorem ind_cases (p : Prop) : (p ∧ ind p = 1) ∨ (¬p ∧ ind p = 0) := by
  by_cases h : p
  · exact .inl ⟨h, ind_true h⟩
  · exact .inr ⟨h, ind_false h⟩

/-- A choice between one and zero is the number of its condition. -/
theorem ite_ind (p : Prop) [Decidable p] : (if p then (1 : EReal) else 0) = ind p := by
  by_cases h : p
  · rw [if_pos h, ind_true h]
  · rw [if_neg h, ind_false h]

theorem ind_nonneg (p : Prop) : 0 ≤ ind p := by
  rcases ind_cases p with ⟨_, h⟩ | ⟨_, h⟩ <;> rw [h]
  exact zero_le_one

theorem ind_mul (p q : Prop) : ind p * ind q = ind (p ∧ q) := by
  by_cases hp : p <;> by_cases hq : q <;> simp [ind, hp, hq]

/-- The number determines the proposition. -/
theorem ind_inj {p q : Prop} : ind p = ind q ↔ (p ↔ q) := by
  by_cases hp : p <;> by_cases hq : q <;> simp [ind, hp, hq]

theorem ind_eq_natCast (p : Prop) : ind p = ((if p then 1 else 0 : ℕ) : EReal) := by
  by_cases hp : p <;> simp [ind, hp]

variable {α : Type} [Fintype α]

/-- A sum of natural numbers is taken alike in the extended reals. -/
theorem sum_natCast {ι : Type} (s : Finset ι) (f : ι → ℕ) : ∑ i ∈ s, ((f i : ℕ) : EReal) = ((∑ i ∈ s, f i : ℕ) : EReal) := by
  induction s using Finset.induction_on with
  | empty => simp
  | insert a s ha ih => rw [Finset.sum_insert ha, Finset.sum_insert ha, ih, Nat.cast_add]

/-- What a step adds to a relation: every pair that two pairs of it lead through. -/
def grow (R : α → α → Prop) (i j : α) : Prop := R i j ∨ ∃ k, R i k ∧ R k j

/-- The step on the matrix of zeros and ones, whatever the threshold between 0 and 1. -/
theorem grow_entry {ε : EReal} (h0 : 0 ≤ ε) (h1 : ε < 1) (R : α → α → Prop) (i j : α) :
    (if ε < ind (R i j) + ∑ k, ind (R i k) * ind (R k j) then (1 : EReal) else 0) = ind (grow R i j) := by
  have hs : 0 ≤ ∑ k, ind (R i k) * ind (R k j) := Finset.sum_nonneg fun k _ => by rw [ind_mul]; exact ind_nonneg _
  by_cases hR : R i j
  · rw [ind_true hR, ind_true (p := grow R i j) (.inl hR), if_pos]
    exact lt_of_lt_of_le h1 (le_add_of_nonneg_right hs)
  · rw [ind_false hR, zero_add]
    by_cases hk : ∃ k, R i k ∧ R k j
    · rw [ind_true (p := grow R i j) (.inr hk), if_pos]
      obtain ⟨k, hk⟩ := hk
      refine lt_of_lt_of_le h1 ?_
      have := Finset.single_le_sum (f := fun k => ind (R i k) * ind (R k j)) (fun k _ => by rw [ind_mul]; exact ind_nonneg _) (Finset.mem_univ k)
      simp only [ind_mul, ind_true hk] at this
      simpa only [ind_mul] using this
    · rw [ind_false (p := grow R i j) (by rintro (h | h); exacts [hR h, hk h]), if_neg]
      rw [Finset.sum_eq_zero fun k _ => by rw [ind_mul]; exact ind_false fun h => hk ⟨k, h⟩]
      exact not_lt.mpr h0

/-- The number of pairs of a relation. -/
def pairs (R : α → α → Prop) : EReal := ∑ i, ∑ j, ind (R i j)

/-- A step adds a pair exactly when the count grows. -/
theorem pairs_lt_iff (R : α → α → Prop) : pairs R < pairs (grow R) ↔ grow R ≠ R := by
  have hc : ∀ Q : α → α → Prop, pairs Q = ((∑ i, ∑ j, (if Q i j then 1 else 0) : ℕ) : EReal) := fun Q => by
    unfold pairs
    simp only [ind_eq_natCast, sum_natCast]
  rw [hc, hc, Nat.cast_lt]
  have hle : ∀ i j, (if R i j then 1 else 0 : ℕ) ≤ if grow R i j then 1 else 0 := fun i j => by
    by_cases h : R i j
    · rw [if_pos h, if_pos (.inl h)]
    · rw [if_neg h]; exact Nat.zero_le _
  constructor
  · intro h e
    rw [e] at h
    exact absurd h (lt_irrefl _)
  · intro h
    obtain ⟨i, j, hij⟩ : ∃ i j, grow R i j ∧ ¬R i j := by
      by_contra hn
      refine h (funext fun i => funext fun j => propext ⟨fun hg => ?_, .inl⟩)
      by_contra hr
      exact hn ⟨i, j, hg, hr⟩
    refine Finset.sum_lt_sum (fun i _ => Finset.sum_le_sum fun j _ => hle i j) ⟨i, Finset.mem_univ _, ?_⟩
    refine Finset.sum_lt_sum (fun j _ => hle i j) ⟨j, Finset.mem_univ _, ?_⟩
    rw [if_neg hij.2, if_pos hij.1]
    exact Nat.zero_lt_one

/-- Once a step changes nothing, none does. -/
theorem grow_iterate_fixed {R : α → α → Prop} (h : grow R = R) (n : ℕ) : grow^[n] R = R := Function.iterate_fixed h n

variable {β : Type} [Fintype β]

/-- A relation on a larger set that agrees with one on a subset and leads nowhere from it stays so under a step. -/
theorem grow_restrict {f : β → α} {R : α → α → Prop} {Q : β → β → Prop} (hin : ∀ i j, R (f i) (f j) ↔ Q i j)
    (hout : ∀ i k, R (f i) k → ∃ j, f j = k) :
    (∀ i j, grow R (f i) (f j) ↔ grow Q i j) ∧ ∀ i k, grow R (f i) k → ∃ j, f j = k := by
  refine ⟨fun i j => or_congr (hin i j) ⟨?_, ?_⟩, ?_⟩
  · rintro ⟨k, h1, h2⟩
    obtain ⟨k, rfl⟩ := hout i k h1
    exact ⟨k, (hin _ _).mp h1, (hin _ _).mp h2⟩
  · rintro ⟨k, h1, h2⟩
    exact ⟨f k, (hin _ _).mpr h1, (hin _ _).mpr h2⟩
  · rintro i k (h | ⟨l, h1, h2⟩)
    · exact hout i k h
    · obtain ⟨l, rfl⟩ := hout i l h1
      exact hout l k h2

/-- The same after any number of steps. -/
theorem grow_iterate_restrict {f : β → α} (n : ℕ) : ∀ {R : α → α → Prop} {Q : β → β → Prop} (_ : ∀ i j, R (f i) (f j) ↔ Q i j)
    (_ : ∀ i k, R (f i) k → ∃ j, f j = k),
    (∀ i j, grow^[n] R (f i) (f j) ↔ grow^[n] Q i j) ∧ ∀ i k, grow^[n] R (f i) k → ∃ j, f j = k := by
  induction n with
  | zero => exact fun hin hout => ⟨hin, hout⟩
  | succ n ih => exact fun hin hout => ih (grow_restrict hin hout).1 (grow_restrict hin hout).2

end Cert.Proof.Math

end
-- ==== Proof.KI.TileValue.lean ====
/-
  The seed planes over the extended reals: ones where the box of the row is near the box of the column.
-/
module

public import proofs.«01_k».proof.Proof.KI.Tile
public import proofs.«01_k».proof.Proof.Math.Giou
public import proofs.«01_k».proof.Proof.Math.Relation
public import Idealize.ShloMosaic.Lib.Pointwise
public import Idealize.ShloMosaic.Lib.Pipeline.CanonAppend
public import Idealize.ShloMosaic.Lib.VecWindow

@[expose] public section

set_option maxRecDepth 16384

noncomputable section

namespace Cert.Proof.KI

open Cert.KernelIdeal Cert.KernelIdeal.Gen
open Idealize.ShloMosaic Idealize.ShloMosaic.TcCoe
open Cert.Proof.Math

/-- An index with the given three coordinates. -/
theorem idx3 {a b c : ℕ} (y : (⟨3, ![a, b, c]⟩ : Shape).Idx) (p : Fin a) (q : Fin b) (r : Fin c) (h0 : (y 0).val = p.val) (h1 : (y 1).val = q.val)
    (h2 : (y 2).val = r.val) : y = ix3 p q r := by
  rw [eq_ix3 y, show y 0 = p from Fin.ext h0, show y 1 = q from Fin.ext h1, show y 2 = r from Fin.ext h2]

/-- The mask of a tile at a row and a column. -/
theorem tile_apply (v : Vec Ideal S1x128x8 .f32) (x1 y1 x2 y2 ar : FVec Ideal S1x128 .f32) (r c : Fin 128) :
    tile v x1 y1 x2 y2 ar (ix2 r c)
      = ind (threshold < giouOf (lo (v (ix3 0 r 0)) (v (ix3 0 r 2))) (lo (v (ix3 0 r 1)) (v (ix3 0 r 3)))
          (hi (v (ix3 0 r 0)) (v (ix3 0 r 2))) (hi (v (ix3 0 r 1)) (v (ix3 0 r 3)))
          ((hi (v (ix3 0 r 0)) (v (ix3 0 r 2)) - lo (v (ix3 0 r 0)) (v (ix3 0 r 2))) * (hi (v (ix3 0 r 1)) (v (ix3 0 r 3)) - lo (v (ix3 0 r 1)) (v (ix3 0 r 3))))
          (x1 (ix2 0 c)) (y1 (ix2 0 c)) (x2 (ix2 0 c)) (y2 (ix2 0 c)) (ar (ix2 0 c))) := by
  pointwise [tile, tileOverlap, tileUnion, tileHull, down, across, flat, k0_pay9, k0_pay10, k0_pay11, k0_pay12, k0_pay13, k0_pay8]
  exact ite_ind _

/-- Five rows that hold the corners and the areas of 1024 boxes. -/
structure Rows (b : Fin 1024 → Fin 4 → EReal) (x1 y1 x2 y2 ar : FVec Ideal S1x1024 .f32) : Prop where
  x1 : ∀ c, x1 (ix2 0 c) = lo (b c 0) (b c 2)
  y1 : ∀ c, y1 (ix2 0 c) = lo (b c 1) (b c 3)
  x2 : ∀ c, x2 (ix2 0 c) = hi (b c 0) (b c 2)
  y2 : ∀ c, y2 (ix2 0 c) = hi (b c 1) (b c 3)
  ar : ∀ c, ar (ix2 0 c) = area (b c)

/-- A block of 128 rows of boxes: the first four of its eight columns. -/
def Block (a : Fin 128 → Fin 4 → EReal) (v : Vec Ideal S1x128x8 .f32) : Prop := ∀ r (q : Fin 4), v (ix3 0 r (q.castLE (by decide))) = a r q

section
variable {a : Fin 128 → Fin 4 → EReal} {b : Fin 1024 → Fin 4 → EReal} {v : Vec Ideal S1x128x8 .f32} {x1 y1 x2 y2 ar : FVec Ideal S1x1024 .f32}

/-- The tile of the columns from `o`: ones where the boxes are near. -/
theorem tileAt_apply (hv : Block a v) (hb : Rows b x1 y1 x2 y2 ar) (o : ℕ) (ho : o + 128 ≤ 1024) (h : S1x1024.Slices ![0, o] S1x128) (r c : Fin 128) :
    tileAt v x1 y1 x2 y2 ar o h (ix2 r c) = ind (Near (a r) (b ⟨o + c.val, by omega⟩)) := by
  unfold tileAt
  rw [tile_apply]
  have e : ∀ u : FVec Ideal S1x1024 .f32, extractStridedSlice S1x128 ![0, o] u h (ix2 0 c) = u (ix2 0 ⟨o + c.val, by omega⟩) := fun u => by
    pointwise
  have h0 := hv r 0; have h1 := hv r 1; have h2 := hv r 2; have h3 := hv r 3
  simp only [e, hb.x1, hb.y1, hb.x2, hb.y2, hb.ar]
  rw [show v (ix3 0 r 0) = a r 0 from h0, show v (ix3 0 r 1) = a r 1 from h1, show v (ix3 0 r 2) = a r 2 from h2, show v (ix3 0 r 3) = a r 3 from h3]
  rfl

/-- The sum of a block of rows: the number of pairs of near boxes with the row in the block. -/
theorem total_tileSum (hv : Block a v) (hb : Rows b x1 y1 x2 y2 ar) :
    total (tileSum v x1 y1 x2 y2 ar) = ∑ r : Fin 128, ∑ c : Fin 1024, ind (Near (a r) (b c)) := by
  have e : total (tileSum v x1 y1 x2 y2 ar) = ∑ r : Fin 128, ∑ c : Fin 128, tileSum v x1 y1 x2 y2 ar (ix2 r c) := by
    unfold total
    generalize tileSum v x1 y1 x2 y2 ar = t
    pointwise
  rw [e]
  refine Finset.sum_congr rfl fun r _ => ?_
  have split : ∀ f : Fin 1024 → EReal, ∑ c, f c = ∑ w : Fin 8, ∑ c : Fin 128, f ⟨128 * w.val + c.val, by omega⟩ := fun f => by
    refine ((finProdFinEquiv (m := 8) (n := 128)).sum_comp f).symm.trans ((Fintype.sum_prod_type _).trans ?_)
    exact Finset.sum_congr rfl fun w _ => Finset.sum_congr rfl fun c _ => congrArg f (Fin.ext (Nat.add_comm c.val (128 * w.val)))
  rw [split, Finset.sum_comm]
  refine Finset.sum_congr rfl fun c _ => ?_
  rw [Fin.sum_univ_eight]
  unfold tileSum
  simp only [addf_apply, flat, Ideal.addf_def]
  have t := fun o ho h => tileAt_apply hv hb o ho h r c
  rw [t 0 (by decide), t 128 (by decide), t 256 (by decide), t 384 (by decide), t 512 (by decide), t 640 (by decide), t 768 (by decide), t 896 (by decide)]
  rw [show broadcast S128x128 (Scalar.ofBits (F := Ideal) .f32 0x00000000#32) (ix2 r c) = (0 : EReal) from Ideal.ofBits_zero_f32, zero_add]
  rfl

end

/-- The seed planes of boxes `A` (rows) and `B` (columns), batch by batch. -/
def seedPlanes (A B : Fin 2 → Fin 1024 → Fin 4 → EReal) : S2x1024x1024.Idx → EReal := fun y => ind (Near (A (y 0) (y 1)) (B (y 0) (y 2)))

/-- A stored tile holds the seed planes' entries at its own place. -/
theorem stored_agree {A B : Fin 2 → Fin 1024 → Fin 4 → EReal} (g : Fin 2) (k : ℕ) (hk : k < 8) {a : Fin 128 → Fin 4 → EReal} {v : Vec Ideal S1x128x8 .f32}
    {x1 y1 x2 y2 ar : FVec Ideal S1x1024 .f32} (hv : Block a v) (ha : ∀ r, a r = A g ⟨128 * k + r.val, by omega⟩) (hb : Rows (B g) x1 y1 x2 y2 ar)
    (o : ℕ) (ho : o + 128 ≤ 1024) (h : S1x1024.Slices ![0, o] S1x128) {off : Fin 3 → ℕ} (inb : ∀ d, off d + (![1, 128, 128] : Fin 3 → ℕ) d ≤ S2x1024x1024.size d)
    (hoff : off = ![g.val, 128 * k, o]) (x : (Rect.unit (s := S2x1024x1024) off ![1, 128, 128] inb).shape.Idx) :
    stored (tileAt v x1 y1 x2 y2 ar o h) x = seedPlanes A B ((Rect.unit (s := S2x1024x1024) off ![1, 128, 128] inb).emb x) := by
  subst hoff
  obtain ⟨z, r, c, rfl⟩ : ∃ (z : Fin 1) (r c : Fin 128), x = ix3 z r c := ⟨x 0, x 1, x 2, eq_ix3 x⟩
  have e : stored (tileAt v x1 y1 x2 y2 ar o h) (ix3 z r c) = tileAt v x1 y1 x2 y2 ar o h (ix2 r c) := by
    unfold stored
    generalize tileAt v x1 y1 x2 y2 ar o h = t
    pointwise
  refine e.trans ?_
  rw [tileAt_apply hv hb o ho h r c, ha r]
  unfold seedPlanes
  have e0 : (Rect.unit (s := S2x1024x1024) ![g.val, 128 * k, o] ![1, 128, 128] inb).emb (ix3 z r c) 0 = g := Fin.ext (show g.val + 1 * z.val = g.val by omega)
  have e1 : (Rect.unit (s := S2x1024x1024) ![g.val, 128 * k, o] ![1, 128, 128] inb).emb (ix3 z r c) 1 = (⟨128 * k + r.val, by omega⟩ : Fin 1024) :=
    Fin.ext (show 128 * k + 1 * r.val = 128 * k + r.val by omega)
  have e2 : (Rect.unit (s := S2x1024x1024) ![g.val, 128 * k, o] ![1, 128, 128] inb).emb (ix3 z r c) 2 = (⟨o + c.val, by omega⟩ : Fin 1024) :=
    Fin.ext (show o + 1 * c.val = o + c.val by omega)
  rw [e0, e1, e2]

section
variable (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)

/-- The box a row of a batch's padded table holds. -/
def rowBox (x0 : Vec Ideal S2x1024x8 .f32) (g : Fin 2) (r : Fin 1024) : Fin 4 → EReal := fun q => x0 (ix3 g r (q.castLE (by decide)))

/-- The box a column of a batch's transposed table holds. -/
def colBox (x1 : Vec Ideal S2x8x1024 .f32) (g : Fin 2) (r : Fin 1024) : Fin 4 → EReal := fun q => x1 (ix3 g (q.castLE (by decide)) r)

/-- The rows of one batch that a round reads. -/
theorem block_of {x0 : Vec Ideal S2x1024x8 .f32} (g : Fin 2) (k : ℕ) (hk : k < 8) {off : Fin 3 → ℕ} (inb : ∀ d, off d + S1x128x8.size d ≤ S2x1024x8.size d)
    (hoff : off = ![g.val, 128 * k, 0]) :
    Block (fun r => rowBox x0 g ⟨128 * k + r.val, by omega⟩)
      (arg1.view.readAt (Elt Ideal) (Rect.unit (s := S2x1024x8) off S1x128x8.size inb).toLoadRect (harg1.unread x0)) := by
  subst hoff
  intro r q
  rw [View.readAt_unit arg1.view _ inb rfl inb, harg1.read_unread]
  unfold rowBox
  refine congrArg x0 (idx3 _ _ _ _ ?_ ?_ ?_)
  · show g.val + 0 = g.val; omega
  · show 128 * k + 1 * r.val = 128 * k + r.val; omega
  · show 0 + 1 * q.val = q.val; omega

/-- The corner rows of the first batch. -/
theorem rows_first (x1 : Vec Ideal S2x8x1024 .f32) (v : Vec Ideal S1x8x1024 .f32) (hv : ∀ q c, v (ix3 0 q c) = x1 (ix3 0 q c)) :
    Rows (colBox x1 0) (k0_pay168 v) (k0_pay169 v) (k0_pay170 v) (k0_pay171 v) (k0_pay172 v) := by
  constructor <;> intro c <;> pointwise [k0_pay168, k0_pay169, k0_pay170, k0_pay171, k0_pay172, k0_pay167] <;> simp only [hv] <;> rfl

/-- The corner rows of the second batch. -/
theorem rows_second (x1 : Vec Ideal S2x8x1024 .f32) (v : Vec Ideal S1x8x1024 .f32) (hv : ∀ q c, v (ix3 0 q c) = x1 (ix3 1 q c)) :
    Rows (colBox x1 1) (k0_pay174 v) (k0_pay175 v) (k0_pay176 v) (k0_pay180 (k0_pay177 v) (k0_pay178 v) k0_pay179)
      (k0_pay181 (k0_pay174 v) (k0_pay175 v) (k0_pay176 v) (k0_pay177 v) (k0_pay178 v) k0_pay179) := by
  constructor <;> intro c <;> pointwise [k0_pay174, k0_pay175, k0_pay176, k0_pay177, k0_pay178, k0_pay179, k0_pay180, k0_pay181, k0_pay173] <;> simp only [hv] <;> rfl

/-- The number of near pairs of a batch whose row is below `n`. -/
def rowsBelow (A B : Fin 2 → Fin 1024 → Fin 4 → EReal) (g : Fin 2) (n : ℕ) : EReal :=
  ∑ r ∈ Finset.range n, if h : r < 1024 then ∑ c, ind (Near (A g ⟨r, h⟩) (B g c)) else 0

theorem rowsBelow_add (A B : Fin 2 → Fin 1024 → Fin 4 → EReal) (g : Fin 2) (k : ℕ) (hk : k < 8) :
    rowsBelow A B g (128 * (k + 1)) = rowsBelow A B g (128 * k) + ∑ r : Fin 128, ∑ c, ind (Near (A g ⟨128 * k + r.val, by omega⟩) (B g c)) := by
  unfold rowsBelow
  rw [Nat.mul_succ, Finset.sum_range_add, Finset.sum_range (n := 128)]
  exact congrArg _ (Finset.sum_congr rfl fun r _ => dif_pos (by omega))

theorem rowsBelow_all (A B : Fin 2 → Fin 1024 → Fin 4 → EReal) (g : Fin 2) : rowsBelow A B g 1024 = pairs fun r c => Near (A g r) (B g c) := by
  unfold rowsBelow pairs
  rw [Finset.sum_range (n := 1024)]
  exact Finset.sum_congr rfl fun r _ => dif_pos r.isLt

variable {v6 v11 v16 v21 v24 v31 v36 v41 v42 v43 v44 : FVec Ideal S1x1024 .f32} {B : Fin 2 → Fin 1024 → Fin 4 → EReal}

/-- Every tile a round stores holds the seed planes' entries at its own place. -/
theorem trip_agree (hA : Rows (B 0) v6 v11 v16 v21 v24) (hB : Rows (B 1) v31 v36 v41 (k0_pay180 v42 v43 v44) (k0_pay181 v31 v36 v41 v42 v43 v44))
    (x0 : Vec Ideal S2x1024x8 .f32) (k : Fin k0_t1_loop.trips) (acc : EReal × EReal) :
    ∀ p ∈ tripL_k0_t1 (F := Ideal) 𝒱₀ c none i arg1 harg1 arg2 harg2 arg3 harg3 arg4 harg4 arg5 harg5 arg6 harg6 v6 v11 v16 v21 v24 v31 v36 v41 v42 v43 v44 (harg1.unread x0) k acc,
      ∀ x : p.1.shape.Idx, p.2 x = seedPlanes (rowBox x0) B (p.1.emb x) := by
  have hk : k.val < 8 := Nat.lt_of_lt_of_le k.isLt k0_t1_abs.2.1
  rw [trip_pieces]
  have bA := block_of arg1 harg1 (x0 := x0) 0 k.val hk (k0_off1_inb k) (k0_off1_eq k)
  have bB := block_of arg1 harg1 (x0 := x0) 1 k.val hk (k0_off10_inb k) (k0_off10_eq k)
  have a := stored_agree (A := rowBox x0) (B := B) 0 k.val hk bA (fun _ => rfl) hA
  have b := stored_agree (A := rowBox x0) (B := B) 1 k.val hk bB (fun _ => rfl) hB
  simp only [List.forall_mem_cons, List.not_mem_nil, false_implies, implies_true, and_true]
  exact ⟨b 896 (by decide) _ _ (k0_off18_eq k), b 768 (by decide) _ _ (k0_off17_eq k), b 640 (by decide) _ _ (k0_off16_eq k),
    b 512 (by decide) _ _ (k0_off15_eq k), b 384 (by decide) _ _ (k0_off14_eq k), b 256 (by decide) _ _ (k0_off13_eq k),
    b 128 (by decide) _ _ (k0_off12_eq k), b 0 (by decide) _ _ (k0_off11_eq k),
    a 896 (by decide) _ _ (k0_off9_eq k), a 768 (by decide) _ _ (k0_off8_eq k), a 640 (by decide) _ _ (k0_off7_eq k),
    a 512 (by decide) _ _ (k0_off6_eq k), a 384 (by decide) _ _ (k0_off5_eq k), a 256 (by decide) _ _ (k0_off4_eq k),
    a 128 (by decide) _ _ (k0_off3_eq k), a 0 (by decide) _ _ (k0_off2_eq k)⟩

/-- After `n` rounds of the seed loop: the tiles stored so far hold the seed planes' entries, and the counts are those of the rows so far. -/
theorem seed_upto (hA : Rows (B 0) v6 v11 v16 v21 v24) (hB : Rows (B 1) v31 v36 v41 (k0_pay180 v42 v43 v44) (k0_pay181 v31 v36 v41 v42 v43 v44))
    (x0 : Vec Ideal S2x1024x8 .f32) : ∀ n : ℕ, n ≤ k0_t1_loop.trips →
      let s := st_k0_t1 (F := Ideal) 𝒱₀ c none i arg1 harg1 arg2 harg2 arg3 harg3 arg4 harg4 arg5 harg5 arg6 harg6 v6 v11 v16 v21 v24 v31 v36 v41 v42 v43 v44
        (harg1.unread x0) (Scalar.ofBits .f32 0x00000000#32, Scalar.ofBits .f32 0x00000000#32) n
      s.1 = (rowsBelow (rowBox x0) B 0 (128 * n), rowsBelow (rowBox x0) B 1 (128 * n)) ∧ ∀ p ∈ s.2, ∀ x : p.1.shape.Idx, p.2 x = seedPlanes (rowBox x0) B (p.1.emb x)
  | 0, _ => ⟨Prod.ext Ideal.ofBits_zero_f32 Ideal.ofBits_zero_f32, fun p hp => nomatch hp⟩
  | n + 1, hn => by
    obtain ⟨h1, h2⟩ := seed_upto hA hB x0 n (by omega)
    have hk : n < 8 := Nat.lt_of_lt_of_le hn k0_t1_abs.2.1
    have e := st_k0_t1_succ (F := Ideal) 𝒱₀ c none i arg1 harg1 arg2 harg2 arg3 harg3 arg4 harg4 arg5 harg5 arg6 harg6 v6 v11 v16 v21 v24 v31 v36 v41 v42 v43 v44
        (harg1.unread x0) (Scalar.ofBits .f32 0x00000000#32, Scalar.ofBits .f32 0x00000000#32) ⟨n, hn⟩
    intro s
    rw [show s = _ from e]
    refine ⟨?_, fun p hp => ?_⟩
    · show tripR_k0_t1 _ _ _ _ _ _ _ _ _ _ _ _ _ _ _ _ _ _ _ _ _ _ _ _ _ _ _ _ _ _ = _
      rw [trip_counts, h1]
      have bA := block_of arg1 harg1 (x0 := x0) 0 n hk (k0_off1_inb ⟨n, hn⟩) (k0_off1_eq ⟨n, hn⟩)
      have bB := block_of arg1 harg1 (x0 := x0) 1 n hk (k0_off10_inb ⟨n, hn⟩) (k0_off10_eq ⟨n, hn⟩)
      exact Prod.ext ((congrArg _ (total_tileSum bA hA)).trans (rowsBelow_add (rowBox x0) B 0 n hk).symm)
        ((congrArg _ (total_tileSum bB hB)).trans (rowsBelow_add (rowBox x0) B 1 n hk).symm)
    · rcases List.mem_append.mp hp with hp | hp
      · exact trip_agree c i arg1 harg1 arg2 harg2 arg3 harg3 arg4 harg4 arg5 harg5 arg6 harg6 hA hB x0 ⟨n, hn⟩ _ p hp
      · exact h2 p hp

/-- Nearness of the boxes of two tables of a batch, as a relation on the 1024 places. -/
def nearRel (x0 : Vec Ideal S2x1024x8 .f32) (x1 : Vec Ideal S2x8x1024 .f32) (g : Fin 2) : Fin 1024 → Fin 1024 → Prop :=
  fun r c => Near (rowBox x0 g r) (colBox x1 g c)

/-- What the repetition starts from: the two relations of nearness and their numbers of pairs. -/
theorem start_eq (x0 : Vec Ideal S2x1024x8 .f32) (x1 : Vec Ideal S2x8x1024 .f32) :
    start (F := Ideal) c i arg1 harg1 arg2 harg2 arg3 harg3 arg4 harg4 arg5 harg5 arg6 harg6 x0 x1
      = ((pairs (nearRel x0 x1 0), pairs (nearRel x0 x1 1)), fun y => ind (nearRel x0 x1 (y 0) (y 1) (y 2))) := by
  have hv0 : ∀ q c, arg2.view.readAt (Elt Ideal) (Rect.unit (s := S2x8x1024) ![0, 0, 0] S1x8x1024.size inb_S2x8x1024_S1x8x1024_0_0_0).toLoadRect (harg2.unread x1) (ix3 0 q c) = x1 (ix3 0 q c) := fun q c => by
    rw [View.readAt_unit arg2.view _ inb_S2x8x1024_S1x8x1024_0_0_0 rfl inb_S2x8x1024_S1x8x1024_0_0_0, harg2.read_unread]
    refine congrArg x1 (idx3 _ _ _ _ ?_ ?_ ?_)
    · rfl
    · show 0 + 1 * q.val = q.val; omega
    · show 0 + 1 * c.val = c.val; omega
  have hv1 : ∀ q c, arg2.view.readAt (Elt Ideal) (Rect.unit (s := S2x8x1024) ![1, 0, 0] S1x8x1024.size inb_S2x8x1024_S1x8x1024_1_0_0).toLoadRect (harg2.unread x1) (ix3 0 q c) = x1 (ix3 1 q c) := fun q c => by
    rw [View.readAt_unit arg2.view _ inb_S2x8x1024_S1x8x1024_1_0_0 rfl inb_S2x8x1024_S1x8x1024_1_0_0, harg2.read_unread]
    refine congrArg x1 (idx3 _ _ _ _ ?_ ?_ ?_)
    · rfl
    · show 0 + 1 * q.val = q.val; omega
    · show 0 + 1 * c.val = c.val; omega
  have hcov := View.cover_of_tiledL (seeded (F := Ideal) c i arg1 harg1 arg2 harg2 arg3 harg3 arg4 harg4 arg5 harg5 arg6 harg6 x0 x1).2 S1x128x128.size (by sl_kernel_rfl)
  obtain ⟨h1, h2⟩ := seed_upto c i arg1 harg1 arg2 harg2 arg3 harg3 arg4 harg4 arg5 harg5 arg6 harg6 (B := colBox x1) (rows_first x1 _ hv0) (rows_second x1 _ hv1) x0
    (Scf.trips k0_t1_loop.lb k0_t1_loop.ub k0_t1_loop.st) le_rfl
  refine Prod.ext ?_ (funext fun y => ?_)
  · refine Eq.trans h1 ?_
    rw [show Scf.trips k0_t1_loop.lb k0_t1_loop.ub k0_t1_loop.st = 8 by decide]
    exact Prod.ext (rowsBelow_all _ _ 0) (rowsBelow_all _ _ 1)
  · have := View.canon_append_of_pieces (seedPlanes (rowBox x0) (colBox x1)) [] _ h2 y (hcov y)
    rw [List.append_nil] at this
    exact this

end

end Cert.Proof.KI

end
-- ==== Proof.KI.SweepValue.lean ====
/-
  A sweep over the extended reals: from the two planes of ones and zeros of two relations it makes those of the relations
  one step on, with their numbers of pairs; and what the whole repetition leaves.
-/
module

public import proofs.«01_k».proof.Proof.KI.TileValue

@[expose] public section

set_option maxRecDepth 16384

noncomputable section

namespace Cert.Proof.KI

open Cert.KernelIdeal Cert.KernelIdeal.Gen
open Idealize.ShloMosaic Idealize.ShloMosaic.TcCoe
open Cert.Proof.Math

/-- The planes of ones and zeros of two relations. -/
def planesOf (R : Fin 2 → Fin 1024 → Fin 1024 → Prop) : Vec Ideal S2x1024x1024 .bf16 := fun y => ind (R (y 0) (y 1) (y 2))

/-- The planes after the rows below `n` have been stepped. -/
def stepped (R : Fin 2 → Fin 1024 → Fin 1024 → Prop) (n : ℕ) : Vec Ideal S2x1024x1024 .bf16 :=
  fun y => if (y 1).val < n then ind (grow (R (y 0)) (y 1) (y 2)) else ind (R (y 0) (y 1) (y 2))

/-- The products of the planes with themselves. -/
theorem prodOf_apply (R : Fin 2 → Fin 1024 → Fin 1024 → Prop) (g : Fin 2) (i j : Fin 1024) :
    prodOf (F := Ideal) (planesOf R) (ix3 g i j) = ∑ k, ind (R g i k) * ind (R g k j) := by
  have eA : ∀ i j, planeA (planesOf R) (ix3 0 i j) = ind (R 0 i j) := fun i j => by
    unfold planeA
    refine (congrArg (planesOf R) (idx3 _ 0 i j ?_ ?_ ?_)).trans rfl
    · rfl
    · show 0 + 1 * i.val = i.val; omega
    · show 0 + 1 * j.val = j.val; omega
  have eB : ∀ i j, planeB (planesOf R) (ix3 0 i j) = ind (R 1 i j) := fun i j => by
    unfold planeB
    refine (congrArg (planesOf R) (idx3 _ 1 i j ?_ ?_ ?_)).trans rfl
    · rfl
    · show 0 + 1 * i.val = i.val; omega
    · show 0 + 1 * j.val = j.val; omega
  have pA : k0_pay3 (F := Ideal) (planeA (planesOf R)) (planeA (planesOf R)) (ix3 0 i j) = ∑ k, ind (R 0 i k) * ind (R 0 k j) := by
    simp only [← eA]
    generalize planeA (planesOf R) = p
    pointwise [k0_pay3]
  have pB : k0_pay4 (F := Ideal) (planeB (planesOf R)) (planeB (planesOf R)) (ix3 0 i j) = ∑ k, ind (R 1 i k) * ind (R 1 k j) := by
    simp only [← eB]
    generalize planeB (planesOf R) = p
    pointwise [k0_pay4]
  unfold prodOf pairOver VecWindow.put
  match g with
  | 0 =>
    rw [dif_neg (fun h => absurd (h 0).1 (by show ¬1 ≤ 0; omega)), dif_pos]
    · refine (congrArg _ (idx3 _ 0 i j ?_ ?_ ?_)).trans pA
      · rfl
      · show i.val - 0 = i.val; omega
      · show j.val - 0 = j.val; omega
    · intro a
      match a with
      | 0 => exact ⟨Nat.zero_le _, by show 0 < 0 + 1; omega⟩
      | 1 => exact ⟨Nat.zero_le _, by show i.val < 0 + 1024; omega⟩
      | 2 => exact ⟨Nat.zero_le _, by show j.val < 0 + 1024; omega⟩
  | 1 =>
    rw [dif_pos]
    · refine (congrArg _ (idx3 _ 0 i j ?_ ?_ ?_)).trans pB
      · rfl
      · show i.val - 0 = i.val; omega
      · show j.val - 0 = j.val; omega
    · intro a
      match a with
      | 0 => exact ⟨Nat.le_refl _, by show 1 < 1 + 1; omega⟩
      | 1 => exact ⟨Nat.zero_le _, by show i.val < 0 + 1024; omega⟩
      | 2 => exact ⟨Nat.zero_le _, by show j.val < 0 + 1024; omega⟩

/-- A block of rows stepped: the entry's number plus the product's, compared with the small number. -/
theorem pay188_apply (p : Vec Ideal S1x128x1024 .bf16) (q : Vec Ideal S1x128x1024 .f32) (r : Fin 128) (c : Fin 1024) :
    k0_pay188 (F := Ideal) p q (ix2 r c) = if tiny < p (ix3 0 r c) + q (ix3 0 r c) then (1 : EReal) else 0 := by
  pointwise [k0_pay188]
  rfl

/-- The rows of a plane that a round of a sweep reads. -/
theorem rows_apply {e : EltTy} (X : Vec Ideal S2x1024x1024 e) (g : Fin 2) (k : ℕ) (hk : k < 8) {off : Fin 3 → ℕ}
    (inb : ∀ d, off d + S1x128x1024.size d ≤ S2x1024x1024.size d) (hoff : off = ![g.val, 128 * k, 0]) (r : Fin 128) (c : Fin 1024) :
    VecWindow.window (s := S2x1024x1024) X off S1x128x1024.size inb (ix3 0 r c) = X (ix3 g ⟨128 * k + r.val, by omega⟩ c) := by
  subst hoff
  refine congrArg X (idx3 _ _ _ _ ?_ ?_ ?_)
  · show g.val + 0 = g.val; omega
  · show 128 * k + 1 * r.val = 128 * k + r.val; omega
  · show 0 + 1 * c.val = c.val; omega

section
variable (R : Fin 2 → Fin 1024 → Fin 1024 → Prop)

/-- What a round makes of its rows: the relation one step on. -/
theorem step_rows (g : Fin 2) (k : ℕ) (hk : k < 8) (X : Vec Ideal S2x1024x1024 .bf16)
    (hX : ∀ (r : Fin 128) c, X (ix3 g ⟨128 * k + r.val, by omega⟩ c) = ind (R g ⟨128 * k + r.val, by omega⟩ c))
    {off : Fin 3 → ℕ} (inb : ∀ d, off d + S1x128x1024.size d ≤ S2x1024x1024.size d) (hoff : off = ![g.val, 128 * k, 0]) (r : Fin 128) (c : Fin 1024) :
    k0_pay188 (F := Ideal) (VecWindow.window (s := S2x1024x1024) X off S1x128x1024.size inb)
        (VecWindow.window (s := S2x1024x1024) (prodOf (F := Ideal) (planesOf R)) off S1x128x1024.size inb) (ix2 r c)
      = ind (grow (R g) ⟨128 * k + r.val, by omega⟩ c) := by
  rw [pay188_apply, rows_apply (e := .bf16) X g k hk inb hoff, rows_apply (e := .f32) (prodOf (F := Ideal) (planesOf R)) g k hk inb hoff, hX, prodOf_apply]
  exact grow_entry tiny_pos.le tiny_lt_one (R g) _ c

/-- The number of pairs of the stepped relation in the rows below `n`. -/
def steppedBelow (g : Fin 2) (n : ℕ) : EReal :=
  ∑ r ∈ Finset.range n, if h : r < 1024 then ∑ c, ind (grow (R g) ⟨r, h⟩ c) else 0

theorem steppedBelow_add (g : Fin 2) (k : ℕ) (hk : k < 8) :
    steppedBelow R g (128 * (k + 1)) = steppedBelow R g (128 * k) + ∑ r : Fin 128, ∑ c, ind (grow (R g) ⟨128 * k + r.val, by omega⟩ c) := by
  unfold steppedBelow
  rw [Nat.mul_succ, Finset.sum_range_add, Finset.sum_range (n := 128)]
  exact congrArg _ (Finset.sum_congr rfl fun r _ => dif_pos (by omega))

theorem steppedBelow_all (g : Fin 2) : steppedBelow R g 1024 = pairs (grow (R g)) := by
  unfold steppedBelow pairs
  rw [Finset.sum_range (n := 1024)]
  exact Finset.sum_congr rfl fun r _ => dif_pos r.isLt

/-- Putting back a round's rows on one plane. -/
theorem put_rows (g : Fin 2) (k : ℕ) (hk : k < 8) (X : Vec Ideal S2x1024x1024 .bf16) {off : Fin 3 → ℕ} (hoff : off = ![g.val, 128 * k, 0])
    (w : Vec Ideal S1x128x1024 .bf16) (G : Vec Ideal S2x1024x1024 .bf16)
    (hw : ∀ (r : Fin 128) c, w (ix3 0 r c) = G (ix3 g ⟨128 * k + r.val, by omega⟩ c)) (h : Fin 2) (i j : Fin 1024) :
    VecWindow.put (s := S2x1024x1024) X off S1x128x1024.size w (ix3 h i j)
      = if h = g ∧ 128 * k ≤ i.val ∧ i.val < 128 * k + 128 then G (ix3 h i j) else X (ix3 h i j) := by
  subst hoff
  unfold VecWindow.put
  by_cases hc : h = g ∧ 128 * k ≤ i.val ∧ i.val < 128 * k + 128
  · obtain ⟨rfl, h1, h2⟩ := hc
    rw [if_pos ⟨rfl, h1, h2⟩, dif_pos]
    · refine (congrArg w (idx3 _ 0 ⟨i.val - 128 * k, by omega⟩ j ?_ ?_ ?_)).trans ((hw _ _).trans (congrArg G (idx3 _ _ _ _ ?_ ?_ ?_)))
      · show h.val - h.val = 0; omega
      · rfl
      · show j.val - 0 = j.val; omega
      · rfl
      · show 128 * k + (i.val - 128 * k) = i.val; omega
      · rfl
    · intro a
      match a with
      | 0 => exact ⟨Nat.le_refl _, by show h.val < h.val + 1; omega⟩
      | 1 => exact ⟨h1, h2⟩
      | 2 => exact ⟨Nat.zero_le _, by show j.val < 0 + 1024; omega⟩
  · rw [if_neg hc, dif_neg]
    intro ha
    refine hc ⟨Fin.ext ?_, (ha 1).1, (ha 1).2⟩
    have h0 : g.val ≤ h.val ∧ h.val < g.val + 1 := ha 0
    omega

/-- After `n` rounds of a sweep from the planes of two relations. -/
theorem sweep_upto : ∀ n : ℕ, n ≤ k0_t2_loop.trips →
    sweep (F := Ideal) (prodOf (F := Ideal) (planesOf R)) ((Scalar.ofBits .f32 0x00000000#32, Scalar.ofBits .f32 0x00000000#32), planesOf R) n
      = ((steppedBelow R 0 (128 * n), steppedBelow R 1 (128 * n)), stepped R (128 * n))
  | 0, _ => by
    refine Prod.ext (Prod.ext Ideal.ofBits_zero_f32 Ideal.ofBits_zero_f32) (funext fun y => ?_)
    exact (if_neg (show ¬(y 1).val < 128 * 0 by omega) : stepped R (128 * 0) y = planesOf R y).symm
  | n + 1, hn => by
    have hk : n < 8 := Nat.lt_of_lt_of_le hn k0_t2_abs.2.1
    have e := sweep_succ (F := Ideal) (prodOf (F := Ideal) (planesOf R)) ((Scalar.ofBits .f32 0x00000000#32, Scalar.ofBits .f32 0x00000000#32), planesOf R) ⟨n, hn⟩
    refine e.trans ?_
    rw [sweep_upto n (Nat.le_of_succ_le hn)]
    have hX : ∀ (g : Fin 2) (r : Fin 128) c, stepped R (128 * n) (ix3 g ⟨128 * n + r.val, by omega⟩ c) = ind (R g ⟨128 * n + r.val, by omega⟩ c) := fun g r c =>
      if_neg (by show ¬128 * n + r.val < 128 * n; omega)
    have sA := step_rows R 0 n hk (stepped R (128 * n)) (hX 0) (k0_off19_inb ⟨n, hn⟩) (k0_off19_eq ⟨n, hn⟩)
    have sB := step_rows R 1 n hk (stepped R (128 * n)) (hX 1) (k0_off20_inb ⟨n, hn⟩) (k0_off20_eq ⟨n, hn⟩)
    unfold tripState rowsA rowsB
    dsimp only
    generalize VecWindow.window (s := S2x1024x1024) (stepped R (128 * n)) (k0_off19 ⟨n, hn⟩) S1x128x1024.size (k0_off19_inb ⟨n, hn⟩) = pA at sA ⊢
    generalize VecWindow.window (s := S2x1024x1024) (prodOf (F := Ideal) (planesOf R)) (k0_off19 ⟨n, hn⟩) S1x128x1024.size (k0_off19_inb ⟨n, hn⟩) = qA at sA ⊢
    generalize VecWindow.window (s := S2x1024x1024) (stepped R (128 * n)) (k0_off20 ⟨n, hn⟩) S1x128x1024.size (k0_off20_inb ⟨n, hn⟩) = pB at sB ⊢
    generalize VecWindow.window (s := S2x1024x1024) (prodOf (F := Ideal) (planesOf R)) (k0_off20 ⟨n, hn⟩) S1x128x1024.size (k0_off20_inb ⟨n, hn⟩) = qB at sB ⊢
    have cA : k0_pay190 (F := Ideal) pA qA = ∑ r : Fin 128, ∑ c : Fin 1024, k0_pay188 (F := Ideal) pA qA (ix2 r c) := by
      unfold k0_pay190
      generalize k0_pay188 (F := Ideal) pA qA = t
      pointwise
    have cB : ∀ z : EReal, k0_pay7 (F := Ideal) z (k0_pay191 pB qB) = z + ∑ r : Fin 128, ∑ c : Fin 1024, k0_pay188 (F := Ideal) pB qB (ix2 r c) := fun z => by
      rw [show k0_pay191 (F := Ideal) pB qB = k0_pay188 (F := Ideal) pB qB from rfl]
      generalize k0_pay188 (F := Ideal) pB qB = t
      unfold k0_pay7
      refine congrArg (z + ·) ?_
      pointwise
    have wA : ∀ (r : Fin 128) (c : Fin 1024), k0_pay189 (F := Ideal) pA qA (ix3 0 r c) = k0_pay188 (F := Ideal) pA qA (ix2 r c) := fun r c => by
      unfold k0_pay189
      generalize k0_pay188 (F := Ideal) pA qA = t
      pointwise
    have wB : ∀ (r : Fin 128) (c : Fin 1024), k0_pay5 (F := Ideal) (k0_pay192 pB qB) (ix3 0 r c) = k0_pay188 (F := Ideal) pB qB (ix2 r c) := fun r c => by
      rw [show k0_pay192 (F := Ideal) pB qB = truncf .bf16 (k0_pay188 (F := Ideal) pB qB) bitsLt_bf16_f32 from rfl]
      unfold k0_pay5
      generalize k0_pay188 (F := Ideal) pB qB = t
      pointwise
    refine Prod.ext (Prod.ext ?_ ?_) (funext fun y => ?_)
    · refine (congrArg (steppedBelow R 0 (128 * n) + ·) cA).trans ?_
      simp only [sA]
      exact (steppedBelow_add R 0 n hk).symm
    · refine (cB _).trans ?_
      simp only [sB]
      exact (steppedBelow_add R 1 n hk).symm
    · obtain ⟨g, i, j, rfl⟩ : ∃ (g : Fin 2) (i j : Fin 1024), y = ix3 g i j := ⟨y 0, y 1, y 2, eq_ix3 y⟩
      dsimp only
      rw [put_rows 1 n hk _ (k0_off20_eq ⟨n, hn⟩) _ (fun y => ind (grow (R (y 0)) (y 1) (y 2))) (fun r c => (wB r c).trans (sB r c)),
        put_rows 0 n hk _ (k0_off19_eq ⟨n, hn⟩) _ (fun y => ind (grow (R (y 0)) (y 1) (y 2))) (fun r c => (wA r c).trans (sA r c))]
      show (if g = 1 ∧ 128 * n ≤ i.val ∧ i.val < 128 * n + 128 then ind (grow (R g) i j)
          else if g = 0 ∧ 128 * n ≤ i.val ∧ i.val < 128 * n + 128 then ind (grow (R g) i j)
          else if i.val < 128 * n then ind (grow (R g) i j) else ind (R g i j))
        = if i.val < 128 * (n + 1) then ind (grow (R g) i j) else ind (R g i j)
      by_cases h1 : i.val < 128 * n
      · rw [if_neg (by omega), if_neg (by omega), if_pos h1, if_pos (by omega)]
      · by_cases h2 : i.val < 128 * (n + 1)
        · rw [if_pos h2]
          match g with
          | 0 => rw [if_neg (by rintro ⟨h, _⟩; exact absurd h (by decide)), if_pos ⟨rfl, by omega, by omega⟩]
          | 1 => rw [if_pos ⟨rfl, by omega, by omega⟩]
        · rw [if_neg (by omega), if_neg (by omega), if_neg h1, if_neg h2]

/-- A whole sweep: both relations one step on, with their numbers of pairs. -/
theorem sweepAll_eq : sweepAll (F := Ideal) (planesOf R)
    = ((pairs (grow (R 0)), pairs (grow (R 1))), planesOf fun g => grow (R g)) := by
  unfold sweepAll
  rw [sweep_upto R _ le_rfl, show k0_t2_loop.trips = 8 by decide]
  refine Prod.ext (Prod.ext (steppedBelow_all R 0) (steppedBelow_all R 1)) (funext fun y => ?_)
  exact if_pos (y 1).isLt

/-- The mark of a plane is set exactly when the step added a pair. -/
theorem mark_eq (g : Fin 2) : Scalar.cmpf (F := Ideal) (φ := .f32) .ogt (pairs (grow (R g))) (pairs (R g)) = 1#1 ↔ grow (R g) ≠ R g := by
  rw [← pairs_lt_iff]
  show BitVec.ofBool (decide _) = 1#1 ↔ _
  by_cases h : pairs (R g) < pairs (grow (R g))
  · simp [h]
  · simp [h]

end

/-- The repetition, from the planes of two relations of which a mark not set says that a step adds nothing:
    it leaves the relations `n` steps on. -/
theorem closure_planes : ∀ (n : ℕ) (R : Fin 2 → Fin 1024 → Fin 1024 → Prop) (c0 c1 : BitVec 1) (_ : c0 ≠ 1#1 → grow (R 0) = R 0) (_ : c1 ≠ 1#1 → grow (R 1) = R 1),
    (closure (F := Ideal) n c0 c1 ((pairs (R 0), pairs (R 1)), planesOf R)).2 = planesOf fun g => grow^[n] (R g)
  | 0, _, _, _, _, _ => rfl
  | n + 1, R, c0, c1, h0, h1 => by
    unfold closure
    by_cases hc : Scalar.ori c0 c1 = 1#1
    · rw [if_pos hc]
      dsimp only
      rw [sweepAll_eq]
      refine (closure_planes n (fun g => grow (R g)) _ _ (fun h => ?_) (fun h => ?_)).trans rfl
      · have := not_not.mp fun hne => h ((mark_eq R 0).mpr hne)
        show grow (grow (R 0)) = grow (R 0)
        rw [this, this]
      · have := not_not.mp fun hne => h ((mark_eq R 1).mpr hne)
        show grow (grow (R 1)) = grow (R 1)
        rw [this, this]
    · rw [if_neg hc]
      have hb : c0 ≠ 1#1 ∧ c1 ≠ 1#1 := (show ∀ a b : BitVec 1, ¬Scalar.ori a b = 1#1 → a ≠ 1#1 ∧ b ≠ 1#1 by decide) c0 c1 hc
      refine congrArg planesOf (funext fun g => ?_)
      match g with
      | 0 => exact (grow_iterate_fixed (h0 hb.1) (n + 1)).symm
      | 1 => exact (grow_iterate_fixed (h1 hb.2) (n + 1)).symm

end Cert.Proof.KI

end
-- ==== Proof.KI.OutValue.lean ====
/-
  What the kernel's body leaves in its two result blocks, over the extended reals: the closure of the nearness of each
  batch's boxes, and the boxes averaged over it.
-/
module

public import proofs.«01_k».proof.Proof.KI.SweepValue
public import proofs.«01_k».proof.Proof.KI.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Proof.KI

open Cert.KernelIdeal Cert.KernelIdeal.Gen
open Idealize.ShloMosaic Idealize.ShloMosaic.TcCoe
open Cert.Proof.Math

section
variable (c : Dev nD) (i : grid0.Coords) (arg1 : Memref sig .tc .vmem S2x1024x8 .f32) (harg1 : arg1.IsWhole) (arg2 : Memref sig .tc .vmem S2x8x1024 .f32) (harg2 : arg2.IsWhole) (arg3 : Memref sig .tc .vmem S2x900x900 .f32) (harg3 : arg3.IsWhole) (arg4 : Memref sig .tc .vmem S2x900x4 .f32) (harg4 : arg4.IsWhole) (arg5 : Memref sig .tc .vmem S2x1024x1024 .bf16) (harg5 : arg5.IsWhole) (arg6 : Memref sig .tc .vmem S2x1024x1024 .f32) (harg6 : arg6.IsWhole)

/-- The planes after the repetition: the nearness, 900 steps on. -/
theorem closed (x0 : Vec Ideal S2x1024x8 .f32) (x1 : Vec Ideal S2x8x1024 .f32) :
    (closure (F := Ideal) 900 1#1 1#1 (start c i arg1 harg1 arg2 harg2 arg3 harg3 arg4 harg4 arg5 harg5 arg6 harg6 x0 x1)).2
      = planesOf fun g => grow^[900] (nearRel x0 x1 g) := by
  rw [start_eq]
  exact closure_planes 900 (nearRel x0 x1) 1#1 1#1 (fun h => absurd rfl h) (fun h => absurd rfl h)

/-- The closure's block: the first 900 rows and columns of each plane. -/
def adjBlock (x0 : Vec Ideal S2x1024x8 .f32) (x1 : Vec Ideal S2x8x1024 .f32) : Vec Ideal S2x900x900 .f32 := fun y =>
  ind (grow^[900] (nearRel x0 x1 (y 0)) ((y 1).castLE (show 900 ≤ 1024 by decide)) ((y 2).castLE (show 900 ≤ 1024 by decide)))

/-- A coordinate of the sum of the boxes in a row's closure, divided by their number (column 4 of the table). -/
def aggAt (R : Fin 1024 → Fin 1024 → Prop) (x : Fin 1024 → Fin 8 → EReal) (r : Fin 1024) (q : Fin 4) : EReal :=
  Ideal.div (∑ k, ind (R r k) * x k (q.castLE (by decide))) ((∑ k, ind (R r k) * x k 4) + tiny)

/-- The averaged boxes' block. -/
def aggBlock (x0 : Vec Ideal S2x1024x8 .f32) (x1 : Vec Ideal S2x8x1024 .f32) : Vec Ideal S2x900x4 .f32 := fun y =>
  aggAt (grow^[900] (nearRel x0 x1 (y 0))) (fun k q => x0 (ix3 (y 0) k q)) ((y 1).castLE (show 900 ≤ 1024 by decide)) (y 2)

theorem pay_adj (v : Vec Ideal S1x900x900 .bf16) (z : Fin 1) (r q : Fin 900) : k0_pay186 (F := Ideal) v (ix3 z r q) = v (ix3 0 r q) := by
  pointwise [k0_pay186]

theorem pay_agg (a : Vec Ideal S1x1024x8 .f32) (v : Vec Ideal S1x1024x1024 .bf16) (R : Fin 1024 → Fin 1024 → Prop) (hv : ∀ r k, v (ix3 0 r k) = ind (R r k))
    (z : Fin 1) (r : Fin 900) (q : Fin 4) :
    k0_pay187 (F := Ideal) a v (ix3 z r q) = aggAt R (fun k q => a (ix3 0 k q)) (r.castLE (by decide)) q := by
  pointwise [k0_pay187]
  simp only [hv]
  rfl

/-- The pieces of one batch, at an entry. -/
theorem piece_adj (R : Fin 2 → Fin 1024 → Fin 1024 → Prop) (g : Fin 2) {off off' : Fin 3 → ℕ}
    (inb : ∀ d, off d + S1x900x900.size d ≤ S2x1024x1024.size d) (inb' : ∀ d, off' d + S1x900x900.size d ≤ S2x900x900.size d)
    (hoff : off = ![g.val, 0, 0]) (hoff' : off' = ![g.val, 0, 0]) (x : (Rect.unit (s := S2x900x900) off' S1x900x900.size inb').shape.Idx) :
    k0_pay186 (F := Ideal) (View.ld (planesOf R) (Rect.unit off S1x900x900.size inb)) x
      = (fun y : S2x900x900.Idx => ind (R (y 0) ((y 1).castLE (show 900 ≤ 1024 by decide)) ((y 2).castLE (show 900 ≤ 1024 by decide))))
          ((Rect.unit (s := S2x900x900) off' S1x900x900.size inb').emb x) := by
  subst hoff hoff'
  obtain ⟨z, r, q, rfl⟩ : ∃ (z : Fin 1) (r q : Fin 900), x = ix3 z r q := ⟨x 0, x 1, x 2, eq_ix3 x⟩
  have e : View.ld (planesOf R) (Rect.unit ![g.val, 0, 0] S1x900x900.size inb) (ix3 0 r q)
      = planesOf R (ix3 g (r.castLE (show 900 ≤ 1024 by decide)) (q.castLE (show 900 ≤ 1024 by decide))) := by
    refine congrArg (planesOf R) (idx3 _ _ _ _ ?_ ?_ ?_)
    · show g.val + 0 = g.val; omega
    · show 0 + 1 * r.val = r.val; omega
    · show 0 + 1 * q.val = q.val; omega
  have d : (Rect.unit (s := S2x900x900) ![g.val, 0, 0] S1x900x900.size inb').emb (ix3 z r q) = ix3 g r q := by
    refine idx3 _ _ _ _ ?_ ?_ ?_
    · show g.val + 1 * z.val = g.val; omega
    · show 0 + 1 * r.val = r.val; omega
    · show 0 + 1 * q.val = q.val; omega
  rw [d]
  exact (pay_adj _ z r q).trans e

@[inherit_doc piece_adj]
theorem piece_agg (R : Fin 2 → Fin 1024 → Fin 1024 → Prop) (x0 : Vec Ideal S2x1024x8 .f32) (g : Fin 2) {off off' off'' : Fin 3 → ℕ}
    (inb : ∀ d, off d + S1x1024x1024.size d ≤ S2x1024x1024.size d) (inb' : ∀ d, off' d + S1x900x4.size d ≤ S2x900x4.size d)
    (inb'' : ∀ d, off'' d + S1x1024x8.size d ≤ S2x1024x8.size d)
    (hoff : off = ![g.val, 0, 0]) (hoff' : off' = ![g.val, 0, 0]) (hoff'' : off'' = ![g.val, 0, 0])
    (x : (Rect.unit (s := S2x900x4) off' S1x900x4.size inb').shape.Idx) :
    k0_pay187 (F := Ideal) (View.ld x0 (Rect.unit off'' S1x1024x8.size inb'')) (View.ld (planesOf R) (Rect.unit off S1x1024x1024.size inb)) x
      = (fun y : S2x900x4.Idx => aggAt (R (y 0)) (fun k q => x0 (ix3 (y 0) k q)) ((y 1).castLE (show 900 ≤ 1024 by decide)) (y 2))
          ((Rect.unit (s := S2x900x4) off' S1x900x4.size inb').emb x) := by
  subst hoff hoff' hoff''
  obtain ⟨z, r, q, rfl⟩ : ∃ (z : Fin 1) (r : Fin 900) (q : Fin 4), x = ix3 z r q := ⟨x 0, x 1, x 2, eq_ix3 x⟩
  have e : ∀ r k : Fin 1024, View.ld (planesOf R) (Rect.unit ![g.val, 0, 0] S1x1024x1024.size inb) (ix3 0 r k) = ind (R g r k) := fun r k => by
    refine (congrArg (planesOf R) (idx3 _ g r k ?_ ?_ ?_)).trans rfl
    · show g.val + 0 = g.val; omega
    · show 0 + 1 * r.val = r.val; omega
    · show 0 + 1 * k.val = k.val; omega
  have e' : ∀ (k : Fin 1024) (q : Fin 8), View.ld x0 (Rect.unit ![g.val, 0, 0] S1x1024x8.size inb'') (ix3 0 k q) = x0 (ix3 g k q) := fun k q => by
    refine congrArg x0 (idx3 _ g k q ?_ ?_ ?_)
    · show g.val + 0 = g.val; omega
    · show 0 + 1 * k.val = k.val; omega
    · show 0 + 1 * q.val = q.val; omega
  have d : (Rect.unit (s := S2x900x4) ![g.val, 0, 0] S1x900x4.size inb').emb (ix3 z r q) = ix3 g r q := by
    refine idx3 _ _ _ _ ?_ ?_ ?_
    · show g.val + 1 * z.val = g.val; omega
    · show 0 + 1 * r.val = r.val; omega
    · show 0 + 1 * q.val = q.val; omega
  rw [d]
  refine (pay_agg _ _ (R g) e z r q).trans ?_
  simp only [e']
  rfl

/-- The first result's block. -/
theorem out_adj (x0 : Vec Ideal S2x1024x8 .f32) (x1 : Vec Ideal S2x8x1024 .f32) (y : S2x900x900.Idx) :
    out0_A_2 c i arg1 harg1 arg2 harg2 arg3 harg3 arg4 harg4 arg5 harg5 arg6 harg6 x0 x1 y = adjBlock x0 x1 y := by
  have hc := cover0_A_2 c i arg1 harg1 arg2 harg2 arg3 harg3 arg4 harg4 arg5 harg5 arg6 harg6 x0 x1 y
  revert hc
  frame_out
  rw [closed]
  intro hc
  exact View.canon_append_of_piecesOf (adjBlock x0 x1) [] [_, _]
    ⟨piece_adj (fun g => grow^[900] (nearRel x0 x1 g)) 1 inb_S2x1024x1024_S1x900x900_1_0_0 inb_S2x900x900_S1x900x900_1_0_0 rfl rfl,
      piece_adj (fun g => grow^[900] (nearRel x0 x1 g)) 0 inb_S2x1024x1024_S1x900x900_0_0_0 inb_S2x900x900_S1x900x900_0_0_0 rfl rfl, trivial⟩ y hc

/-- The second result's block. -/
theorem out_agg (x0 : Vec Ideal S2x1024x8 .f32) (x1 : Vec Ideal S2x8x1024 .f32) (y : S2x900x4.Idx) :
    out0_A_3 c i arg1 harg1 arg2 harg2 arg3 harg3 arg4 harg4 arg5 harg5 arg6 harg6 x0 x1 y = aggBlock x0 x1 y := by
  have hc := cover0_A_3 c i arg1 harg1 arg2 harg2 arg3 harg3 arg4 harg4 arg5 harg5 arg6 harg6 x0 x1 y
  revert hc
  frame_out
  rw [closed]
  intro hc
  exact View.canon_append_of_piecesOf (aggBlock x0 x1) [] [_, _]
    ⟨piece_agg (fun g => grow^[900] (nearRel x0 x1 g)) x0 1 inb_S2x1024x1024_S1x1024x1024_1_0_0 inb_S2x900x4_S1x900x4_1_0_0 inb_S2x1024x8_S1x1024x8_1_0_0 rfl rfl rfl,
      piece_agg (fun g => grow^[900] (nearRel x0 x1 g)) x0 0 inb_S2x1024x1024_S1x1024x1024_0_0_0 inb_S2x900x4_S1x900x4_0_0_0 inb_S2x1024x8_S1x1024x8_0_0_0 rfl rfl rfl, trivial⟩ y hc

end

end Cert.Proof.KI
-- ==== Proof.KI.Arrays.lean ====
/-
  The kernel's result arrays after the run, over the extended reals, and the padded tables the launch is given.
-/
module

public import proofs.«01_k».proof.Proof.KI.OutValue
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe
open Idealize.SL.Sem
open Cert.Proof.Math

variable (m : (ℓ : Loc nD τ sig) → Buf (Elt Ideal) ℓ) (c : Dev nD)

/-- The padded table of boxes. -/
abbrev table : Vec Ideal S32x1024x8 .f32 := V m c main_v3
/-- The padded boxes, transposed. -/
abbrev cols : Vec Ideal S32x8x1024 .f32 := V m c main_v5

/-- The nearness of the boxes of batch `B`: rows off the table, columns off the transposed boxes. -/
def batchRel (x : Vec Ideal S32x1024x8 .f32) (w : Vec Ideal S32x8x1024 .f32) (B : Fin 32) (r k : Fin 1024) : Prop :=
  Near (fun q => x (ix3 B r (q.castLE (by decide)))) (fun q => w (ix3 B (q.castLE (by decide)) k))

theorem idx_points : ∀ t : Fin (cfg0 (F := Ideal)).N, win0_0.index t = ![t.val, 0, 0] ∧ win0_1.index t = ![t.val, 0, 0] ∧ win0_2.index t = ![t.val, 0, 0]
    ∧ win0_3.index t = ![t.val, 0, 0] := by decide +kernel

/-- The batch of a point's block. -/
def batchOf (t : Fin (cfg0 (F := Ideal)).N) (g : Fin 2) : Fin 32 := ⟨2 * t.val + g.val, by have : t.val < 16 := t.isLt; omega⟩

theorem block_table (t : Fin (cfg0 (F := Ideal)).N) (g : Fin 2) (r : Fin 1024) (q : Fin 8) : (iblk m c 0 t : Vec Ideal S2x1024x8 .f32) (ix3 g r q) = table m c (ix3 (batchOf t g) r q) := by
  blk_ext [iblk, (idx_points t).1, batchOf]

theorem block_cols (t : Fin (cfg0 (F := Ideal)).N) (g : Fin 2) (q : Fin 8) (k : Fin 1024) : (iblk m c 1 t : Vec Ideal S2x8x1024 .f32) (ix3 g q k) = cols m c (ix3 (batchOf t g) q k) := by
  blk_ext [iblk, (idx_points t).2.1, batchOf]

theorem block_rel (t : Fin (cfg0 (F := Ideal)).N) (g : Fin 2) : nearRel (iblk m c 0 t) (iblk m c 1 t) g = batchRel (table m c) (cols m c) (batchOf t g) := by
  funext r k
  unfold nearRel batchRel rowBox colBox
  simp only [block_table, block_cols]

/-- The closure's array. -/
def adjArray : Vec Ideal S32x900x900 .f32 := fun y =>
  ind (grow^[900] (batchRel (table m c) (cols m c) (y 0)) ((y 1).castLE (show 900 ≤ 1024 by decide)) ((y 2).castLE (show 900 ≤ 1024 by decide)))

/-- The averaged boxes' array. -/
def aggArray : Vec Ideal S32x900x4 .f32 := fun y =>
  aggAt (grow^[900] (batchRel (table m c) (cols m c) (y 0))) (fun k q => table m c (ix3 (y 0) k q)) ((y 1).castLE (show 900 ≤ 1024 by decide)) (y 2)

theorem place_adj (t : Fin (cfg0 (F := Ideal)).N) (g : Fin 2) (r k : Fin 900) :
    (((cfg0 (F := Ideal)).win 2).blk t).view.emb (ix3 g r k) = ix3 (batchOf t g) r k := by
  blk_ext [(idx_points t).2.2.1, batchOf]

theorem place_agg (t : Fin (cfg0 (F := Ideal)).N) (g : Fin 2) (r : Fin 900) (q : Fin 4) :
    (((cfg0 (F := Ideal)).win 3).blk t).view.emb (ix3 g r q) = ix3 (batchOf t g) r q := by
  blk_ext [(idx_points t).2.2.2, batchOf]

theorem adj_point (t : Fin (cfg0 (F := Ideal)).N) (y : S2x900x900.Idx) : (outsAt0 m c t).1 y = adjArray m c ((((cfg0 (F := Ideal)).win 2).blk t).view.emb y) := by
  obtain ⟨g, r, k, rfl⟩ : ∃ (g : Fin 2) (r k : Fin 900), y = ix3 g r k := ⟨y 0, y 1, y 2, eq_ix3 y⟩
  rw [place_adj]
  unfold outsAt0
  dsimp only
  rw [out_adj]
  show ind (grow^[900] (nearRel (iblk m c 0 t) (iblk m c 1 t) g) _ _) = ind (grow^[900] (batchRel (table m c) (cols m c) (batchOf t g)) _ _)
  rw [block_rel]
  generalize grow^[900] (batchRel (table m c) (cols m c) (batchOf t g)) = R
  rfl

theorem adj_final : (dats m 0 c).arrAt 2 (cfgs (F := Ideal) 0).N = adjArray m c := by
  refine (dats m 0 c).arrAt_eq_of_covers 2 _ (by decide +kernel) fun t hf y => ?_
  blk_simp
  rw [after0_2]
  exact adj_point m c t y

theorem agg_point (t : Fin (cfg0 (F := Ideal)).N) (y : S2x900x4.Idx) : (outsAt0 m c t).2 y = aggArray m c ((((cfg0 (F := Ideal)).win 3).blk t).view.emb y) := by
  obtain ⟨g, r, q, rfl⟩ : ∃ (g : Fin 2) (r : Fin 900) (q : Fin 4), y = ix3 g r q := ⟨y 0, y 1, y 2, eq_ix3 y⟩
  rw [place_agg]
  unfold outsAt0
  dsimp only
  rw [out_agg]
  show aggAt (grow^[900] (nearRel (iblk m c 0 t) (iblk m c 1 t) g)) (fun k q => (iblk m c 0 t : Vec Ideal S2x1024x8 .f32) (ix3 g k q)) _ _
    = aggAt (grow^[900] (batchRel (table m c) (cols m c) (batchOf t g))) (fun k q => table m c (ix3 (batchOf t g) k q)) _ _
  rw [block_rel]
  simp only [block_table]
  generalize grow^[900] (batchRel (table m c) (cols m c) (batchOf t g)) = R
  rfl

theorem agg_final : (dats m 0 c).arrAt 3 (cfgs (F := Ideal) 0).N = aggArray m c := by
  refine (dats m 0 c).arrAt_eq_of_covers 3 _ (by decide +kernel) fun t hf y => ?_
  blk_simp
  rw [after0_3]
  exact agg_point m c t y

/-- The boxes the program is given. -/
abbrev boxes : Vec Ideal S32x900x4 .f32 := m (c, Proc.devRef .tc main_arg0)

/-- The zero the tables are padded with. -/
def zero : FVec Ideal S_ .f32 := sitofp .f32 (constantI S_ 32 0#32)

theorem zero_apply (i : S_.Idx) : zero i = 0 := by
  show FloatOps.sitofp (F := Ideal) .f32 (0#32) = (0 : EReal)
  simp [FloatOps.sitofp]

/-- The boxes, with boxes of zeros after the last. -/
def padded (b : Vec Ideal S32x900x4 .f32) : Vec Ideal S32x1024x4 .f32 := pad S32x1024x4 ![0, 0, 0] ![0, 124, 0] ![0, 0, 0] b zero pads_S32x900x4_S32x1024x4_000_01240_000 h_S_

theorem cols_value : cols m c = (pad S32x8x1024 ![0, 0, 0] ![0, 4, 0] ![0, 0, 0]
    (transpose S32x4x1024 [0, 2, 1] (padded (boxes m c)) transposes_S32x1024x4_S32x4x1024_0_2_1 : Vec Ideal S32x4x1024 .f32)
    zero pads_S32x4x1024_S32x8x1024_000_040_000 h_S_ : Vec Ideal S32x8x1024 .f32) := by
  unfold cols V
  simp only [List.flatten_cons, List.flatten_nil, List.append_nil, List.cons_append, List.nil_append, hostOps0, hostOps0_1, hostOps0_2, hostOps0_3]
  after_results_simp
  rfl

theorem table_value : table m c = (concatenate S32x1024x8 2 [⟨S32x1024x4, padded (boxes m c)⟩,
    ⟨S32x1024x1, (broadcastInDim S32x1024x1 ![] bcast_S_S32x1024x1 (constant (F := Ideal) S_ .f32 0x3F800000#32) : Vec Ideal S32x1024x1 .f32)⟩,
    ⟨S32x1024x3, (broadcastInDim S32x1024x3 ![] bcast_S_S32x1024x3 (constant (F := Ideal) S_ .f32 0x00000000#32) : Vec Ideal S32x1024x3 .f32)⟩]
    concatenates_S32x1024x4_S32x1024x1_S32x1024x3_S32x1024x8_d2 : Vec Ideal S32x1024x8 .f32) := by
  unfold table V
  simp only [List.flatten_cons, List.flatten_nil, List.append_nil, List.cons_append, List.nil_append, hostOps0, hostOps0_1, hostOps0_2, hostOps0_3]
  after_results_simp
  dsimp only [Matrix.cons_val]
  rfl

theorem padded_apply (b : Vec Ideal S32x900x4 .f32) (B : Fin 32) (r : Fin 1024) (q : Fin 4) :
    padded b (ix3 B r q) = if h : r.val < 900 then b (ix3 B ⟨r.val, h⟩ q) else 0 := by
  pointwise [padded]
  rw [zero_apply]

theorem table_apply (B : Fin 32) (r : Fin 1024) (q : Fin 4) : table m c (ix3 B r (q.castLE (by decide))) = padded (boxes m c) (ix3 B r q) := by
  rw [table_value]
  generalize padded (boxes m c) = p
  fin_cases q <;> (pointwise; exact dif_pos (by decide))

theorem table_ones (B : Fin 32) (r : Fin 1024) : table m c (ix3 B r 4) = 1 := by
  rw [table_value]
  generalize padded (boxes m c) = p
  pointwise

theorem cols_apply (B : Fin 32) (r : Fin 1024) (q : Fin 4) : cols m c (ix3 B (q.castLE (by decide)) r) = padded (boxes m c) (ix3 B r q) := by
  rw [cols_value]
  generalize padded (boxes m c) = p
  fin_cases q <;> (pointwise; exact dif_pos (by decide))

/-- The kernel's run: what its results hold, and that its arguments end unchanged. -/
theorem run (ρ : Dev nD → PrngReg) : θ_run (defs (F := Ideal)) (onTc (τ := τ) (main (F := Ideal))) ⟨m, fun _ => 0, ρ⟩ (fun r => ∀ c : Dev nD,
      r.2.mem ((c.tc : Thread nD τ).loc main_v6_1) = aggArray m c
      ∧ r.2.mem ((c.tc : Thread nD τ).loc main_v6_0) = adjArray m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  θ_run_mono (θ_run_and (run_main m ρ) (unchanged m ρ)) fun r h c =>
    ⟨((h.1 c).1 3).trans (agg_final m c), ((h.1 c).1 2).trans (adj_final m c), (h.2 c).1, (h.2 c).2⟩

end Cert.Proof.KI
-- ==== Proof.RI.IdealValues.lean ====
/-
  The reference over the extended reals: its adjacency is the nearness of boxes, a round is one step of that relation,
  and the loop's result is the relation 900 steps on.
-/
module

public import proofs.«01_k».proof.Proof.RI.Run
public import proofs.«01_k».proof.Proof.Math.Giou
public import proofs.«01_k».proof.Proof.Math.Relation
public import Idealize.ShloMosaic.Lib.Pointwise
public import Idealize.ShloMosaic.Lib.Routing.OpsOrder

@[expose] public section

set_option maxRecDepth 16384

noncomputable section

namespace Cert.Proof.RI

open Cert.ReferenceIdeal Cert.ReferenceIdeal.Gen
open Idealize.ShloMosaic Idealize.ShloMosaic.TcCoe
open Cert.Proof.Math

/-- Box `r` of batch `g`. -/
def box (b : Vec Ideal S32x900x4 .f32) (g : Fin 32) (r : Fin 900) : Fin 4 → EReal := fun q => b (ix3 g r q)

/-- The nearness of the boxes of batch `g`. -/
def nearBoxes (b : Vec Ideal S32x900x4 .f32) (g : Fin 32) (r c : Fin 900) : Prop := Near (box b g r) (box b g c)

theorem corners_apply (b : Vec Ideal S32x900x4 .f32) (g : Fin 32) (r : Fin 900) :
    corners b (ix3 g r 0) = lo (box b g r 0) (box b g r 2) ∧ corners b (ix3 g r 1) = lo (box b g r 1) (box b g r 3)
      ∧ corners b (ix3 g r 2) = hi (box b g r 0) (box b g r 2) ∧ corners b (ix3 g r 3) = hi (box b g r 1) (box b g r 3) := by
  refine ⟨?_, ?_, ?_, ?_⟩ <;> (pointwise [corners, half]; rfl)

theorem areas_apply (x : Vec Ideal S32x900x4 .f32) (g : Fin 32) (r : Fin 900) :
    areas x (ix2 g r) = (x (ix3 g r 2) - x (ix3 g r 0)) * (x (ix3 g r 3) - x (ix3 g r 1)) := by
  pointwise [areas]

theorem sizeOf_apply (w : Vec Ideal S32x900x900x2 .f32) (g : Fin 32) (r c : Fin 900) :
    sizeOf w (ix3 g r c) = max (w (ix4 g r c 0)) 0 * max (w (ix4 g r c 1)) 0 := by
  pointwise [sizeOf]
  exact congrArg₂ _ (max_comm _ _) (max_comm _ _)

theorem overlap_apply (x : Vec Ideal S32x900x4 .f32) (g : Fin 32) (r c : Fin 900) :
    overlap x (ix4 g r c 0) = min (x (ix3 g r 2)) (x (ix3 g c 2)) - max (x (ix3 g r 0)) (x (ix3 g c 0))
      ∧ overlap x (ix4 g r c 1) = min (x (ix3 g r 3)) (x (ix3 g c 3)) - max (x (ix3 g r 1)) (x (ix3 g c 1)) := by
  constructor <;> pointwise [overlap, alongRows, alongCols, rightBottom, leftTop]

theorem hull_apply (x : Vec Ideal S32x900x4 .f32) (g : Fin 32) (r c : Fin 900) :
    hull x (ix4 g r c 0) = max (x (ix3 g r 2)) (x (ix3 g c 2)) - min (x (ix3 g r 0)) (x (ix3 g c 0))
      ∧ hull x (ix4 g r c 1) = max (x (ix3 g r 3)) (x (ix3 g c 3)) - min (x (ix3 g r 1)) (x (ix3 g c 1)) := by
  constructor <;> pointwise [hull, alongRows, alongCols, rightBottom, leftTop]

theorem unions_apply (a : Vec Ideal S32x900 .f32) (i : Vec Ideal S32x900x900 .f32) (g : Fin 32) (r c : Fin 900) :
    unions a i (ix3 g r c) = a (ix2 g r) + a (ix2 g c) - i (ix3 g r c) := by
  pointwise [unions]

theorem ratios_apply (q u : Vec Ideal S32x900x900 .f32) (h : Vec Ideal S32x900x900x2 .f32) (g : Fin 32) (r c : Fin 900) :
    ratios q u h (ix3 g r c) = q (ix3 g r c) - Ideal.div (sizeOf h (ix3 g r c) - u (ix3 g r c)) (sizeOf h (ix3 g r c)) := by
  unfold ratios
  generalize sizeOf h = s
  pointwise

theorem giou_apply (b : Vec Ideal S32x900x4 .f32) (g : Fin 32) (r c : Fin 900) :
    giou b (ix3 g r c) = Math.giou (box b g r) (box b g c) := by
  obtain ⟨l, t, h, e⟩ := corners_apply b g r
  obtain ⟨l', t', h', e'⟩ := corners_apply b g c
  have d : ∀ x y : Vec Ideal S32x900x900 .f32, (Host.divf (φ := .f32) x y : FVec Ideal S32x900x900 .f32) (ix3 g r c) = Ideal.div (x (ix3 g r c)) (y (ix3 g r c)) := fun x y => by
    pointwise
  unfold giou
  rw [ratios_apply, d, unions_apply, areas_apply, areas_apply, sizeOf_apply, sizeOf_apply,
    (overlap_apply ..).1, (overlap_apply ..).2, (hull_apply ..).1, (hull_apply ..).2, l, t, h, e, l', t', h', e']
  rfl

/-- A bit of a condition as a number. -/
theorem uitofp_bit (p : Prop) [Decidable p] : FloatOps.uitofp (F := Ideal) .f32 (BitVec.ofBool (decide p)) = ind p := by
  by_cases hp : p
  · rw [ind_true hp]; simp [hp, FloatOps.uitofp]
  · rw [ind_false hp]; simp [hp, FloatOps.uitofp]

/-- The «or» of the bits of two conditions. -/
theorem ori_bits (p q : Prop) [Decidable p] [Decidable q] : IntOp.ori (BitVec.ofBool (decide p)) (BitVec.ofBool (decide q)) = BitVec.ofBool (decide (p ∨ q)) := by
  by_cases hp : p <;> by_cases hq : q <;> simp [hp, hq] <;> decide

theorem adj0_apply (b : Vec Ideal S32x900x4 .f32) (g : Fin 32) (r c : Fin 900) : adj0 b (ix3 g r c) = ind (nearBoxes b g r c) := by
  have e := giou_apply b g r c
  have e' := giou_apply b g c r
  unfold adj0
  generalize giou b = x at e e' ⊢
  pointwise [adjOf, passes]
  rw [e, e', ori_bits]
  refine (uitofp_bit _).trans (congrArg ind (propext ?_))
  exact or_iff_left_of_imp (near_comm _ _).mp

/-- The array of a relation for each batch. -/
def tableOf (R : Fin 32 → Fin 900 → Fin 900 → Prop) : Vec Ideal S32x900x900 .f32 := fun y => ind (R (y 0) (y 1) (y 2))

theorem round_table (R : Fin 32 → Fin 900 → Fin 900 → Prop) : round (F := Ideal) (tableOf R) = tableOf fun g => grow (R g) := by
  funext y
  obtain ⟨g, r, c, rfl⟩ : ∃ (g : Fin 32) (r c : Fin 900), y = ix3 g r c := ⟨y 0, y 1, y 2, eq_ix3 y⟩
  have e : ∀ a : Vec Ideal S32x900x900 .f32, round (F := Ideal) a (ix3 g r c) = ind (tiny < a (ix3 g r c) + ∑ k : Fin 900, a (ix3 g r k) * a (ix3 g k c)) := fun a => by
    pointwise [round]
    exact uitofp_bit _
  rw [e, ← ite_ind]
  exact grow_entry tiny_pos.le tiny_lt_one (R g) r c

theorem agg_apply (a : Vec Ideal S32x900x900 .f32) (b : Vec Ideal S32x900x4 .f32) (g : Fin 32) (r : Fin 900) (q : Fin 4) :
    agg a b (ix3 g r q) = Ideal.div (∑ k : Fin 900, a (ix3 g r k) * b (ix3 g k q)) ((∑ k : Fin 900, a (ix3 g r k)) + tiny) := by
  pointwise [agg]
  rfl

theorem changed_unset (a : Vec Ideal S32x900x900 .f32) (h : changed a HostLoop.idx0 ≠ 1#1) : round a = a := by
  funext y
  by_contra hne
  apply h
  unfold changed
  generalize round a = b at hne ⊢
  pointwise
  refine (Routing.fold_ori _ _).mpr ⟨(y 0, y 1, y 2), Finset.mem_univ _, ?_⟩
  rw [eq_ix3 y] at hne
  exact congrArg BitVec.ofBool (decide_eq_true hne)

/-- The adjacency after `k` rounds is the relation `k` steps on. -/
theorem rounds_eq (b : Vec Ideal S32x900x4 .f32) : ∀ k, rounds b k = tableOf fun g => grow^[k] (nearBoxes b g)
  | 0 => funext fun y => by rw [eq_ix3 y]; exact adj0_apply b _ _ _
  | k + 1 => by
    rw [rounds_succ, rounds_eq b k, round_table]
    exact congrArg tableOf (funext fun g => (Function.iterate_succ_apply' ..).symm)

theorem tableOf_inj {R Q : Fin 32 → Fin 900 → Fin 900 → Prop} (h : tableOf R = tableOf Q) : R = Q :=
  funext fun g => funext fun r => funext fun c => propext (ind_inj.mp (congrFun h (ix3 g r c)))

/-- A round that changes nothing: the relation is the same any number of steps on. -/
theorem rounds_fixed (b : Vec Ideal S32x900x4 .f32) (k n : ℕ) (hle : k ≤ n) (h : round (rounds b k) = rounds b k) :
    rounds b (k + 1) = tableOf fun g => grow^[n] (nearBoxes b g) := by
  rw [rounds_succ, h]
  rw [rounds_eq, round_table] at h
  rw [rounds_eq]
  refine congrArg tableOf (funext fun g => ?_)
  have hg : grow (grow^[k] (nearBoxes b g)) = grow^[k] (nearBoxes b g) := congrFun (tableOf_inj h) g
  obtain ⟨j, hj⟩ : ∃ j, n = j + k := ⟨n - k, by omega⟩
  rw [hj, Function.iterate_add_apply, grow_iterate_fixed hg]

/-- Where the flag before round `n` is not set, the rounds have come to the relation any number of steps on. -/
theorem rounds_unset (b : Vec Ideal S32x900x4 .f32) (N n : ℕ) (hle : n ≤ N) (h : ¬flag b n HostLoop.idx0 = 1#1) :
    rounds b n = tableOf fun g => grow^[N] (nearBoxes b g) := by
  cases n with
  | zero => exact absurd rfl h
  | succ k => exact rounds_fixed b k N (by omega) (changed_unset _ h)

/-- The loop ends with the relation 900 steps on, however many rounds it takes. -/
theorem rounds_end (b : Vec Ideal S32x900x4 .f32) : rounds b (roundCount b) = tableOf fun g => grow^[900] (nearBoxes b g) := by
  rcases roundCount_ends b with h | h
  · rw [h, rounds_eq]
  · exact rounds_unset b 900 _ (roundCount_le b) h

end Cert.Proof.RI
-- ==== Proof.Join.Value.lean ====
/-
  The two programs' results over the extended reals are the same: the boxes of zeros the kernel's tables are padded with
  are near no box whose sides are not negative, so the closure of the padded nearness is that of the boxes' own.
-/
module

public import proofs.«01_k».proof.Proof.KI.Arrays
public import proofs.«01_k».proof.Proof.RI.IdealValues
public import proofs.«01_k».proof.Pre_sides_nonnegative
public import Idealize.ShloMosaic.Lib.Pointwise

@[expose] public section

set_option maxRecDepth 16384

noncomputable section

namespace Cert.Proof.Join

open Idealize.ShloMosaic Idealize.ShloMosaic.TcCoe
open Cert.Proof.Math Cert.KernelIdeal

/-- No box has a negative side. -/
def Sides (b : Vec Ideal S32x900x4 .f32) : Prop := ∀ (B : Fin 32) (r : Fin 900), 0 ≤ b (ix3 B r 2) ∧ 0 ≤ b (ix3 B r 3)

/-- Where the precondition holds no box has a negative side. -/
theorem sides_of_pre [Cert.Pre_sides_nonnegative.Facts] (b : Vec Ideal S32x900x4 .f32) (l : Vec Ideal S32x900x91 .f32)
    (h : Cert.Pre_sides_nonnegative.fn (F := Ideal) b l = fun _ => 1#1) : Sides b := by
  have at_ : ∀ (B : Fin 32) (r : Fin 900) (q : Fin 2), 0 ≤ b (ix3 B r (q.natAdd 2)) := fun B r q => by
    have e := congrFun h (ix3 B r q)
    revert e
    pointwise [Cert.Pre_sides_nonnegative.fn]
    intro e
    have p : 0 ≤ b (ix3 B r ⟨2 + q.val, by omega⟩) := by
      by_contra hn
      rw [decide_eq_false hn] at e
      exact absurd e (by decide)
    exact p
  exact fun B r => ⟨at_ B r 0, at_ B r 1⟩

/-- The place of a box among the padded ones. -/
abbrev place (r : Fin 900) : Fin 1024 := r.castLE (by decide)

section
variable (m : (ℓ : Loc nD τ sig) → Buf (Elt Ideal) ℓ) (c : Dev nD)

/-- The table's first four columns hold the boxes. -/
theorem row_real (B : Fin 32) (r : Fin 900) : (fun q : Fin 4 => KI.table m c (ix3 B (place r) (q.castLE (by decide)))) = RI.box (KI.boxes m c) B r :=
  funext fun q => by rw [KI.table_apply, KI.padded_apply, dif_pos (show (place r).val < 900 from r.isLt)]; rfl

/-- The transposed table's first four rows hold the boxes. -/
theorem col_real (B : Fin 32) (r : Fin 900) : (fun q : Fin 4 => KI.cols m c (ix3 B (q.castLE (by decide)) (place r))) = RI.box (KI.boxes m c) B r :=
  funext fun q => by rw [KI.cols_apply, KI.padded_apply, dif_pos (show (place r).val < 900 from r.isLt)]; rfl

/-- Past the boxes the transposed table holds the padding box. -/
theorem col_pad (B : Fin 32) (k : Fin 1024) (hk : ¬k.val < 900) : (fun q : Fin 4 => KI.cols m c (ix3 B (q.castLE (by decide)) k)) = pad :=
  funext fun q => by rw [KI.cols_apply, KI.padded_apply, dif_neg hk]; rfl

/-- The closure of the padded nearness, from a real box: on the real boxes the closure of their own, on the others empty. -/
theorem closure_real (hs : Sides (KI.boxes m c)) (n : ℕ) (B : Fin 32) :
    (∀ i j, grow^[n] (KI.batchRel (KI.table m c) (KI.cols m c) B) (place i) (place j) ↔ grow^[n] (RI.nearBoxes (KI.boxes m c) B) i j)
      ∧ ∀ i k, grow^[n] (KI.batchRel (KI.table m c) (KI.cols m c) B) (place i) k → ∃ j, place j = k := by
  refine grow_iterate_restrict (f := place) n (fun i j => ?_) (fun i k h => ?_)
  · unfold KI.batchRel
    rw [row_real, col_real]
    rfl
  · by_contra hk
    have hk' : ¬k.val < 900 := fun hlt => hk ⟨⟨k.val, hlt⟩, rfl⟩
    unfold KI.batchRel at h
    rw [row_real, col_pad m c B k hk'] at h
    exact not_near_pad _ (hs B i).1 (hs B i).2 h

/-- A sum over the padded boxes that is zero off the real ones. -/
theorem sum_real (f : Fin 1024 → EReal) (h : ∀ k, (∀ j, place j ≠ k) → f k = 0) : ∑ k, f k = ∑ j : Fin 900, f (place j) := by
  refine (Fin.sum_univ_add (a := 900) (b := 124) f).trans ?_
  have z : ∑ i : Fin 124, f (Fin.natAdd 900 i) = 0 := Finset.sum_eq_zero fun i _ => h _ fun j e => by
    have : j.val = 900 + i.val := congrArg Fin.val e
    omega
  rw [z, add_zero]
  rfl

variable (hs : Sides (KI.boxes m c))
include hs

/-- The closures agree. -/
theorem adj_eq : KI.adjArray m c = RI.rounds (KI.boxes m c) (RI.roundCount (KI.boxes m c)) := by
  rw [RI.rounds_end]
  funext y
  exact congrArg ind (propext ((closure_real m c hs 900 (y 0)).1 (y 1) (y 2)))

/-- The averaged boxes agree. -/
theorem agg_eq : KI.aggArray m c = RI.agg (RI.rounds (KI.boxes m c) (RI.roundCount (KI.boxes m c))) (KI.boxes m c) := by
  rw [RI.rounds_end]
  funext y
  obtain ⟨B, r, q, rfl⟩ : ∃ (B : Fin 32) (r : Fin 900) (q : Fin 4), y = ix3 B r q := ⟨y 0, y 1, y 2, eq_ix3 y⟩
  rw [RI.agg_apply]
  obtain ⟨hin, hout⟩ := closure_real m c hs 900 B
  show KI.aggAt (grow^[900] (KI.batchRel (KI.table m c) (KI.cols m c) B)) (fun k q => KI.table m c (ix3 B k q)) (place r) q
    = Ideal.div (∑ k : Fin 900, ind (grow^[900] (RI.nearBoxes (KI.boxes m c) B) r k) * KI.boxes m c (ix3 B k q)) ((∑ k : Fin 900, ind (grow^[900] (RI.nearBoxes (KI.boxes m c) B) r k)) + tiny)
  generalize grow^[900] (KI.batchRel (KI.table m c) (KI.cols m c) B) = R at hin hout ⊢
  generalize grow^[900] (RI.nearBoxes (KI.boxes m c) B) = Q at hin ⊢
  have off : ∀ x : Fin 1024 → EReal, ∀ k, (∀ j, place j ≠ k) → ind (R (place r) k) * x k = 0 := fun x k hk => by
    rw [ind_false fun h => by obtain ⟨j, hj⟩ := hout r k h; exact hk j hj, zero_mul]
  unfold KI.aggAt
  dsimp only
  rw [sum_real _ (off fun k => KI.table m c (ix3 B k (q.castLE (by decide)))), sum_real _ (off fun k => KI.table m c (ix3 B k 4))]
  refine congrArg₂ Ideal.div (Finset.sum_congr rfl fun k _ => ?_) (congrArg (· + tiny) (Finset.sum_congr rfl fun k _ => ?_))
  · rw [propext (hin r k)]
    exact congrArg _ (congrFun (row_real m c B k) q)
  · rw [propext (hin r k)]
    exact (congrArg _ (KI.table_ones m c B (place k))).trans (mul_one _)

end

end Cert.Proof.Join
-- ==== Proof.lean ====
/-
  The claims, put together from the modules under Proof/.
-/
module

public import proofs.«01_k».proof.Defs
public import proofs.«01_k».proof.Proof.K.Frame
public import proofs.«01_k».proof.Proof.KI.Frame
public import proofs.«01_k».proof.Proof.RI.Run
public import proofs.«01_k».proof.Proof.Join.Value
public import proofs.«01_k».proof.Proof.Gen.Pre_sides_nonnegative
public import Idealize.ShloMosaic.Adequacy
public import Idealize.ShloMosaic.Init

@[expose] public section

noncomputable section

namespace Cert.Proof

open Idealize.ShloMosaic Idealize.SL.Sem

/-- From equal arguments in which no box has a negative side, the kernel and the reference end with equal results. -/
theorem values : Cert.algebraic_KernelIdeal_ReferenceIdeal_pre_sides_nonnegative := by
  intro m g m' g' hpre hsame
  have hs : ∀ c, Join.Sides (KI.boxes m c) := fun c => Join.sides_of_pre _ _ (hpre c)
  have hb : ∀ c, RI.boxes m' c = KI.boxes m c := fun c => (hsame c).1
  have hn : ∀ c, RI.roundsOf m' = RI.roundCount (KI.boxes m c) := fun c => by
    rw [← hb c, Subsingleton.elim c 0]
    rfl
  refine ⟨KI.aggArray m, fun c => m ((c.tc : Thread Cert.KernelIdeal.nD Cert.KernelIdeal.τ).loc Cert.KernelIdeal.main_arg1), KI.adjArray m,
    θ_run_mono (KI.run m g) fun r h c => ⟨(h c).1, (h c).2.2.2, (h c).2.1, (h c).2.2⟩, θ_run_mono (RI.run m' g') fun r h c => ?_⟩
  obtain ⟨hagg, hadj, h0, h1⟩ := h c
  rw [hb c, hn c] at hagg hadj
  exact ⟨hagg.trans (Join.agg_eq m c (hs c)).symm, h1.trans (hsame c).2, hadj.trans (Join.adj_eq m c (hs c)).symm, h0, h1⟩

/-- The claims. -/
theorem claim : Cert.Claim :=
  ⟨Cert.Kernel.Gen.facts, Cert.KernelIdeal.Gen.facts, Cert.ReferenceIdeal.Gen.facts, Cert.Pre_sides_nonnegative.Gen.facts,
    fun m ρ _ => K.frame m ρ, fun m ρ _ => KI.frame m ρ, fun m ρ _ => KI.frame m ρ, fun m ρ _ => RI.frame m ρ, fun m ρ _ => RI.frame m ρ, trivial,
    values⟩

end Cert.Proof

end
